-- ==== Defs.lean ====
def Pre_Dft (m : (ℓ : Loc Cert.Dft.nD Cert.Dft.τ Cert.Dft.sig) → Buf (Elt Bits) ℓ) : Prop :=
  True

def Pre_DftIdeal (m : (ℓ : Loc Cert.DftIdeal.nD Cert.DftIdeal.τ Cert.DftIdeal.sig) → Buf (Elt Ideal) ℓ) : Prop :=
  True

def Pre_DftIdeal_finite [hPre_finite : Cert.Pre_finite.Facts] (m : (ℓ : Loc Cert.DftIdeal.nD Cert.DftIdeal.τ Cert.DftIdeal.sig) → Buf (Elt Ideal) ℓ) : Prop :=
  ∀ c : Dev Cert.DftIdeal.nD,
    (Cert.Pre_finite.fn (F := Ideal) (m ((c.tc : Thread Cert.DftIdeal.nD Cert.DftIdeal.τ).loc Cert.DftIdeal.main_arg0)) (m ((c.tc : Thread Cert.DftIdeal.nD Cert.DftIdeal.τ).loc Cert.DftIdeal.main_arg1))) = (fun _ => 1#1)

def Pre_DftRefIdeal (m : (ℓ : Loc Cert.DftRefIdeal.nD Cert.DftRefIdeal.τ Cert.DftRefIdeal.sig) → Buf (Elt Ideal) ℓ) : Prop :=
  True

def Pre_DftRefIdeal_finite [hPre_finite : Cert.Pre_finite.Facts] (m : (ℓ : Loc Cert.DftRefIdeal.nD Cert.DftRefIdeal.τ Cert.DftRefIdeal.sig) → Buf (Elt Ideal) ℓ) : Prop :=
  ∀ c : Dev Cert.DftRefIdeal.nD,
    (Cert.Pre_finite.fn (F := Ideal) (m ((c.tc : Thread Cert.DftRefIdeal.nD Cert.DftRefIdeal.τ).loc Cert.DftRefIdeal.main_arg0)) (m ((c.tc : Thread Cert.DftRefIdeal.nD Cert.DftRefIdeal.τ).loc Cert.DftRefIdeal.main_arg1))) = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Delta (m : (ℓ : Loc Cert.Delta.nD Cert.Delta.τ Cert.Delta.sig) → Buf (Elt Bits) ℓ) : Prop :=
  True

def Pre_DeltaIdeal (m : (ℓ : Loc Cert.DeltaIdeal.nD Cert.DeltaIdeal.τ Cert.DeltaIdeal.sig) → Buf (Elt Ideal) ℓ) : Prop :=
  True

def Pre_DeltaRefIdeal (m : (ℓ : Loc Cert.DeltaRefIdeal.nD Cert.DeltaRefIdeal.τ Cert.DeltaRefIdeal.sig) → Buf (Elt Ideal) ℓ) : Prop :=
  True

def Pre_Prologue (m : (ℓ : Loc Cert.Prologue.nD Cert.Prologue.τ Cert.Prologue.sig) → Buf (Elt Bits) ℓ) : Prop :=
  True

def Pre_PrologueIdeal (m : (ℓ : Loc Cert.PrologueIdeal.nD Cert.PrologueIdeal.τ Cert.PrologueIdeal.sig) → Buf (Elt Ideal) ℓ) : Prop :=
  True

def Pre_PrologueRefIdeal (m : (ℓ : Loc Cert.PrologueRefIdeal.nD Cert.PrologueRefIdeal.τ Cert.PrologueRefIdeal.sig) → Buf (Elt Ideal) ℓ) : Prop :=
  True

def quiescent_Dft [hDft : Cert.Dft.Facts] : Prop :=
  ∀ (m : (ℓ : Loc Cert.Dft.nD Cert.Dft.τ Cert.Dft.sig) → Buf (Elt Bits) ℓ) (g : Dev Cert.Dft.nD → PrngReg), Pre_Dft m →
    θ_run (Cert.Dft.defs (F := Bits)) (onTc (τ := Cert.Dft.τ) (Cert.Dft.main (F := Bits))) ⟨m, fun _ => 0, g⟩ (fun r => (∀ c : Dev Cert.Dft.nD,
      r.2.mem ((c.tc : Thread Cert.Dft.nD Cert.Dft.τ).loc Cert.Dft.main_arg0) = m ((c.tc : Thread Cert.Dft.nD Cert.Dft.τ).loc Cert.Dft.main_arg0)
      ∧ r.2.mem ((c.tc : Thread Cert.Dft.nD Cert.Dft.τ).loc Cert.Dft.main_arg1) = m ((c.tc : Thread Cert.Dft.nD Cert.Dft.τ).loc Cert.Dft.main_arg1))
      ∧ r.2.sem = fun _ => 0)

def quiescent_DftIdeal [hDftIdeal : Cert.DftIdeal.Facts] : Prop :=
  ∀ (m : (ℓ : Loc Cert.DftIdeal.nD Cert.DftIdeal.τ Cert.DftIdeal.sig) → Buf (Elt Ideal) ℓ) (g : Dev Cert.DftIdeal.nD → PrngReg), Pre_DftIdeal m →
    θ_run (Cert.DftIdeal.defs (F := Ideal)) (onTc (τ := Cert.DftIdeal.τ) (Cert.DftIdeal.main (F := Ideal))) ⟨m, fun _ => 0, g⟩ (fun r => (∀ c : Dev Cert.DftIdeal.nD,
      r.2.mem ((c.tc : Thread Cert.DftIdeal.nD Cert.DftIdeal.τ).loc Cert.DftIdeal.main_arg0) = m ((c.tc : Thread Cert.DftIdeal.nD Cert.DftIdeal.τ).loc Cert.DftIdeal.main_arg0)
      ∧ r.2.mem ((c.tc : Thread Cert.DftIdeal.nD Cert.DftIdeal.τ).loc Cert.DftIdeal.main_arg1) = m ((c.tc : Thread Cert.DftIdeal.nD Cert.DftIdeal.τ).loc Cert.DftIdeal.main_arg1))
      ∧ r.2.sem = fun _ => 0)

def quiescent_DftIdeal_pre_finite [hDftIdeal : Cert.DftIdeal.Facts] [hPre_finite : Cert.Pre_finite.Facts] : Prop :=
  ∀ (m : (ℓ : Loc Cert.DftIdeal.nD Cert.DftIdeal.τ Cert.DftIdeal.sig) → Buf (Elt Ideal) ℓ) (g : Dev Cert.DftIdeal.nD → PrngReg), Pre_DftIdeal_finite m →
    θ_run (Cert.DftIdeal.defs (F := Ideal)) (onTc (τ := Cert.DftIdeal.τ) (Cert.DftIdeal.main (F := Ideal))) ⟨m, fun _ => 0, g⟩ (fun r => (∀ c : Dev Cert.DftIdeal.nD,
      r.2.mem ((c.tc : Thread Cert.DftIdeal.nD Cert.DftIdeal.τ).loc Cert.DftIdeal.main_arg0) = m ((c.tc : Thread Cert.DftIdeal.nD Cert.DftIdeal.τ).loc Cert.DftIdeal.main_arg0)
      ∧ r.2.mem ((c.tc : Thread Cert.DftIdeal.nD Cert.DftIdeal.τ).loc Cert.DftIdeal.main_arg1) = m ((c.tc : Thread Cert.DftIdeal.nD Cert.DftIdeal.τ).loc Cert.DftIdeal.main_arg1))
      ∧ r.2.sem = fun _ => 0)

def quiescent_DftRefIdeal [hDftRefIdeal : Cert.DftRefIdeal.Facts] : Prop :=
  ∀ (m : (ℓ : Loc Cert.DftRefIdeal.nD Cert.DftRefIdeal.τ Cert.DftRefIdeal.sig) → Buf (Elt Ideal) ℓ) (g : Dev Cert.DftRefIdeal.nD → PrngReg), Pre_DftRefIdeal m →
    θ_run (Cert.DftRefIdeal.defs (F := Ideal)) (onTc (τ := Cert.DftRefIdeal.τ) (Cert.DftRefIdeal.main (F := Ideal))) ⟨m, fun _ => 0, g⟩ (fun r => (∀ c : Dev Cert.DftRefIdeal.nD,
      r.2.mem ((c.tc : Thread Cert.DftRefIdeal.nD Cert.DftRefIdeal.τ).loc Cert.DftRefIdeal.main_arg0) = m ((c.tc : Thread Cert.DftRefIdeal.nD Cert.DftRefIdeal.τ).loc Cert.DftRefIdeal.main_arg0)
      ∧ r.2.mem ((c.tc : Thread Cert.DftRefIdeal.nD Cert.DftRefIdeal.τ).loc Cert.DftRefIdeal.main_arg1) = m ((c.tc : Thread Cert.DftRefIdeal.nD Cert.DftRefIdeal.τ).loc Cert.DftRefIdeal.main_arg1))
      ∧ r.2.sem = fun _ => 0)

def quiescent_DftRefIdeal_pre_finite [hDftRefIdeal : Cert.DftRefIdeal.Facts] [hPre_finite : Cert.Pre_finite.Facts] : Prop :=
  ∀ (m : (ℓ : Loc Cert.DftRefIdeal.nD Cert.DftRefIdeal.τ Cert.DftRefIdeal.sig) → Buf (Elt Ideal) ℓ) (g : Dev Cert.DftRefIdeal.nD → PrngReg), Pre_DftRefIdeal_finite m →
    θ_run (Cert.DftRefIdeal.defs (F := Ideal)) (onTc (τ := Cert.DftRefIdeal.τ) (Cert.DftRefIdeal.main (F := Ideal))) ⟨m, fun _ => 0, g⟩ (fun r => (∀ c : Dev Cert.DftRefIdeal.nD,
      r.2.mem ((c.tc : Thread Cert.DftRefIdeal.nD Cert.DftRefIdeal.τ).loc Cert.DftRefIdeal.main_arg0) = m ((c.tc : Thread Cert.DftRefIdeal.nD Cert.DftRefIdeal.τ).loc Cert.DftRefIdeal.main_arg0)
      ∧ r.2.mem ((c.tc : Thread Cert.DftRefIdeal.nD Cert.DftRefIdeal.τ).loc Cert.DftRefIdeal.main_arg1) = m ((c.tc : Thread Cert.DftRefIdeal.nD Cert.DftRefIdeal.τ).loc Cert.DftRefIdeal.main_arg1))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_Delta [hDelta : Cert.Delta.Facts] : Prop :=
  ∀ (m : (ℓ : Loc Cert.Delta.nD Cert.Delta.τ Cert.Delta.sig) → Buf (Elt Bits) ℓ) (g : Dev Cert.Delta.nD → PrngReg), Pre_Delta m →
    θ_run (Cert.Delta.defs (F := Bits)) (onTc (τ := Cert.Delta.τ) (Cert.Delta.main (F := Bits))) ⟨m, fun _ => 0, g⟩ (fun r => (∀ c : Dev Cert.Delta.nD,
      r.2.mem ((c.tc : Thread Cert.Delta.nD Cert.Delta.τ).loc Cert.Delta.main_arg0) = m ((c.tc : Thread Cert.Delta.nD Cert.Delta.τ).loc Cert.Delta.main_arg0)
      ∧ r.2.mem ((c.tc : Thread Cert.Delta.nD Cert.Delta.τ).loc Cert.Delta.main_arg1) = m ((c.tc : Thread Cert.Delta.nD Cert.Delta.τ).loc Cert.Delta.main_arg1)
      ∧ r.2.mem ((c.tc : Thread Cert.Delta.nD Cert.Delta.τ).loc Cert.Delta.main_arg2) = m ((c.tc : Thread Cert.Delta.nD Cert.Delta.τ).loc Cert.Delta.main_arg2)
      ∧ r.2.mem ((c.tc : Thread Cert.Delta.nD Cert.Delta.τ).loc Cert.Delta.main_arg3) = m ((c.tc : Thread Cert.Delta.nD Cert.Delta.τ).loc Cert.Delta.main_arg3)
      ∧ r.2.mem ((c.tc : Thread Cert.Delta.nD Cert.Delta.τ).loc Cert.Delta.main_arg4) = m ((c.tc : Thread Cert.Delta.nD Cert.Delta.τ).loc Cert.Delta.main_arg4)
      ∧ r.2.mem ((c.tc : Thread Cert.Delta.nD Cert.Delta.τ).loc Cert.Delta.main_arg5) = m ((c.tc : Thread Cert.Delta.nD Cert.Delta.τ).loc Cert.Delta.main_arg5)
      ∧ r.2.mem ((c.tc : Thread Cert.Delta.nD Cert.Delta.τ).loc Cert.Delta.main_arg6) = m ((c.tc : Thread Cert.Delta.nD Cert.Delta.τ).loc Cert.Delta.main_arg6)
      ∧ r.2.mem ((c.tc : Thread Cert.Delta.nD Cert.Delta.τ).loc Cert.Delta.main_arg7) = m ((c.tc : Thread Cert.Delta.nD Cert.Delta.τ).loc Cert.Delta.main_arg7)
      ∧ r.2.mem ((c.tc : Thread Cert.Delta.nD Cert.Delta.τ).loc Cert.Delta.main_arg8) = m ((c.tc : Thread Cert.Delta.nD Cert.Delta.τ).loc Cert.Delta.main_arg8)
      ∧ r.2.mem ((c.tc : Thread Cert.Delta.nD Cert.Delta.τ).loc Cert.Delta.main_arg9) = m ((c.tc : Thread Cert.Delta.nD Cert.Delta.τ).loc Cert.Delta.main_arg9)
      ∧ r.2.mem ((c.tc : Thread Cert.Delta.nD Cert.Delta.τ).loc Cert.Delta.main_arg10) = m ((c.tc : Thread Cert.Delta.nD Cert.Delta.τ).loc Cert.Delta.main_arg10)
      ∧ r.2.mem ((c.tc : Thread Cert.Delta.nD Cert.Delta.τ).loc Cert.Delta.main_arg11) = m ((c.tc : Thread Cert.Delta.nD Cert.Delta.τ).loc Cert.Delta.main_arg11))
      ∧ r.2.sem = fun _ => 0)

def quiescent_DeltaIdeal [hDeltaIdeal : Cert.DeltaIdeal.Facts] : Prop :=
  ∀ (m : (ℓ : Loc Cert.DeltaIdeal.nD Cert.DeltaIdeal.τ Cert.DeltaIdeal.sig) → Buf (Elt Ideal) ℓ) (g : Dev Cert.DeltaIdeal.nD → PrngReg), Pre_DeltaIdeal m →
    θ_run (Cert.DeltaIdeal.defs (F := Ideal)) (onTc (τ := Cert.DeltaIdeal.τ) (Cert.DeltaIdeal.main (F := Ideal))) ⟨m, fun _ => 0, g⟩ (fun r => (∀ c : Dev Cert.DeltaIdeal.nD,
      r.2.mem ((c.tc : Thread Cert.DeltaIdeal.nD Cert.DeltaIdeal.τ).loc Cert.DeltaIdeal.main_arg0) = m ((c.tc : Thread Cert.DeltaIdeal.nD Cert.DeltaIdeal.τ).loc Cert.DeltaIdeal.main_arg0)
      ∧ r.2.mem ((c.tc : Thread Cert.DeltaIdeal.nD Cert.DeltaIdeal.τ).loc Cert.DeltaIdeal.main_arg1) = m ((c.tc : Thread Cert.DeltaIdeal.nD Cert.DeltaIdeal.τ).loc Cert.DeltaIdeal.main_arg1)
      ∧ r.2.mem ((c.tc : Thread Cert.DeltaIdeal.nD Cert.DeltaIdeal.τ).loc Cert.DeltaIdeal.main_arg2) = m ((c.tc : Thread Cert.DeltaIdeal.nD Cert.DeltaIdeal.τ).loc Cert.DeltaIdeal.main_arg2)
      ∧ r.2.mem ((c.tc : Thread Cert.DeltaIdeal.nD Cert.DeltaIdeal.τ).loc Cert.DeltaIdeal.main_arg3) = m ((c.tc : Thread Cert.DeltaIdeal.nD Cert.DeltaIdeal.τ).loc Cert.DeltaIdeal.main_arg3)
      ∧ r.2.mem ((c.tc : Thread Cert.DeltaIdeal.nD Cert.DeltaIdeal.τ).loc Cert.DeltaIdeal.main_arg4) = m ((c.tc : Thread Cert.DeltaIdeal.nD Cert.DeltaIdeal.τ).loc Cert.DeltaIdeal.main_arg4)
      ∧ r.2.mem ((c.tc : Thread Cert.DeltaIdeal.nD Cert.DeltaIdeal.τ).loc Cert.DeltaIdeal.main_arg5) = m ((c.tc : Thread Cert.DeltaIdeal.nD Cert.DeltaIdeal.τ).loc Cert.DeltaIdeal.main_arg5)
      ∧ r.2.mem ((c.tc : Thread Cert.DeltaIdeal.nD Cert.DeltaIdeal.τ).loc Cert.DeltaIdeal.main_arg6) = m ((c.tc : Thread Cert.DeltaIdeal.nD Cert.DeltaIdeal.τ).loc Cert.DeltaIdeal.main_arg6)
      ∧ r.2.mem ((c.tc : Thread Cert.DeltaIdeal.nD Cert.DeltaIdeal.τ).loc Cert.DeltaIdeal.main_arg7) = m ((c.tc : Thread Cert.DeltaIdeal.nD Cert.DeltaIdeal.τ).loc Cert.DeltaIdeal.main_arg7)
      ∧ r.2.mem ((c.tc : Thread Cert.DeltaIdeal.nD Cert.DeltaIdeal.τ).loc Cert.DeltaIdeal.main_arg8) = m ((c.tc : Thread Cert.DeltaIdeal.nD Cert.DeltaIdeal.τ).loc Cert.DeltaIdeal.main_arg8)
      ∧ r.2.mem ((c.tc : Thread Cert.DeltaIdeal.nD Cert.DeltaIdeal.τ).loc Cert.DeltaIdeal.main_arg9) = m ((c.tc : Thread Cert.DeltaIdeal.nD Cert.DeltaIdeal.τ).loc Cert.DeltaIdeal.main_arg9)
      ∧ r.2.mem ((c.tc : Thread Cert.DeltaIdeal.nD Cert.DeltaIdeal.τ).loc Cert.DeltaIdeal.main_arg10) = m ((c.tc : Thread Cert.DeltaIdeal.nD Cert.DeltaIdeal.τ).loc Cert.DeltaIdeal.main_arg10)
      ∧ r.2.mem ((c.tc : Thread Cert.DeltaIdeal.nD Cert.DeltaIdeal.τ).loc Cert.DeltaIdeal.main_arg11) = m ((c.tc : Thread Cert.DeltaIdeal.nD Cert.DeltaIdeal.τ).loc Cert.DeltaIdeal.main_arg11))
      ∧ r.2.sem = fun _ => 0)

def quiescent_DeltaRefIdeal [hDeltaRefIdeal : Cert.DeltaRefIdeal.Facts] : Prop :=
  ∀ (m : (ℓ : Loc Cert.DeltaRefIdeal.nD Cert.DeltaRefIdeal.τ Cert.DeltaRefIdeal.sig) → Buf (Elt Ideal) ℓ) (g : Dev Cert.DeltaRefIdeal.nD → PrngReg), Pre_DeltaRefIdeal m →
    θ_run (Cert.DeltaRefIdeal.defs (F := Ideal)) (onTc (τ := Cert.DeltaRefIdeal.τ) (Cert.DeltaRefIdeal.main (F := Ideal))) ⟨m, fun _ => 0, g⟩ (fun r => (∀ c : Dev Cert.DeltaRefIdeal.nD,
      r.2.mem ((c.tc : Thread Cert.DeltaRefIdeal.nD Cert.DeltaRefIdeal.τ).loc Cert.DeltaRefIdeal.main_arg0) = m ((c.tc : Thread Cert.DeltaRefIdeal.nD Cert.DeltaRefIdeal.τ).loc Cert.DeltaRefIdeal.main_arg0)
      ∧ r.2.mem ((c.tc : Thread Cert.DeltaRefIdeal.nD Cert.DeltaRefIdeal.τ).loc Cert.DeltaRefIdeal.main_arg1) = m ((c.tc : Thread Cert.DeltaRefIdeal.nD Cert.DeltaRefIdeal.τ).loc Cert.DeltaRefIdeal.main_arg1)
      ∧ r.2.mem ((c.tc : Thread Cert.DeltaRefIdeal.nD Cert.DeltaRefIdeal.τ).loc Cert.DeltaRefIdeal.main_arg2) = m ((c.tc : Thread Cert.DeltaRefIdeal.nD Cert.DeltaRefIdeal.τ).loc Cert.DeltaRefIdeal.main_arg2)
      ∧ r.2.mem ((c.tc : Thread Cert.DeltaRefIdeal.nD Cert.DeltaRefIdeal.τ).loc Cert.DeltaRefIdeal.main_arg3) = m ((c.tc : Thread Cert.DeltaRefIdeal.nD Cert.DeltaRefIdeal.τ).loc Cert.DeltaRefIdeal.main_arg3)
      ∧ r.2.mem ((c.tc : Thread Cert.DeltaRefIdeal.nD Cert.DeltaRefIdeal.τ).loc Cert.DeltaRefIdeal.main_arg4) = m ((c.tc : Thread Cert.DeltaRefIdeal.nD Cert.DeltaRefIdeal.τ).loc Cert.DeltaRefIdeal.main_arg4)
      ∧ r.2.mem ((c.tc : Thread Cert.DeltaRefIdeal.nD Cert.DeltaRefIdeal.τ).loc Cert.DeltaRefIdeal.main_arg5) = m ((c.tc : Thread Cert.DeltaRefIdeal.nD Cert.DeltaRefIdeal.τ).loc Cert.DeltaRefIdeal.main_arg5)
      ∧ r.2.mem ((c.tc : Thread Cert.DeltaRefIdeal.nD Cert.DeltaRefIdeal.τ).loc Cert.DeltaRefIdeal.main_arg6) = m ((c.tc : Thread Cert.DeltaRefIdeal.nD Cert.DeltaRefIdeal.τ).loc Cert.DeltaRefIdeal.main_arg6)
      ∧ r.2.mem ((c.tc : Thread Cert.DeltaRefIdeal.nD Cert.DeltaRefIdeal.τ).loc Cert.DeltaRefIdeal.main_arg7) = m ((c.tc : Thread Cert.DeltaRefIdeal.nD Cert.DeltaRefIdeal.τ).loc Cert.DeltaRefIdeal.main_arg7)
      ∧ r.2.mem ((c.tc : Thread Cert.DeltaRefIdeal.nD Cert.DeltaRefIdeal.τ).loc Cert.DeltaRefIdeal.main_arg8) = m ((c.tc : Thread Cert.DeltaRefIdeal.nD Cert.DeltaRefIdeal.τ).loc Cert.DeltaRefIdeal.main_arg8)
      ∧ r.2.mem ((c.tc : Thread Cert.DeltaRefIdeal.nD Cert.DeltaRefIdeal.τ).loc Cert.DeltaRefIdeal.main_arg9) = m ((c.tc : Thread Cert.DeltaRefIdeal.nD Cert.DeltaRefIdeal.τ).loc Cert.DeltaRefIdeal.main_arg9)
      ∧ r.2.mem ((c.tc : Thread Cert.DeltaRefIdeal.nD Cert.DeltaRefIdeal.τ).loc Cert.DeltaRefIdeal.main_arg10) = m ((c.tc : Thread Cert.DeltaRefIdeal.nD Cert.DeltaRefIdeal.τ).loc Cert.DeltaRefIdeal.main_arg10)
      ∧ r.2.mem ((c.tc : Thread Cert.DeltaRefIdeal.nD Cert.DeltaRefIdeal.τ).loc Cert.DeltaRefIdeal.main_arg11) = m ((c.tc : Thread Cert.DeltaRefIdeal.nD Cert.DeltaRefIdeal.τ).loc Cert.DeltaRefIdeal.main_arg11))
      ∧ r.2.sem = fun _ => 0)

def quiescent_Prologue [hPrologue : Cert.Prologue.Facts] : Prop :=
  ∀ (m : (ℓ : Loc Cert.Prologue.nD Cert.Prologue.τ Cert.Prologue.sig) → Buf (Elt Bits) ℓ) (g : Dev Cert.Prologue.nD → PrngReg), Pre_Prologue m →
    θ_run (Cert.Prologue.defs (F := Bits)) (onTc (τ := Cert.Prologue.τ) (Cert.Prologue.main (F := Bits))) ⟨m, fun _ => 0, g⟩ (fun r => (∀ c : Dev Cert.Prologue.nD,
      r.2.mem ((c.tc : Thread Cert.Prologue.nD Cert.Prologue.τ).loc Cert.Prologue.main_arg0) = m ((c.tc : Thread Cert.Prologue.nD Cert.Prologue.τ).loc Cert.Prologue.main_arg0)
      ∧ r.2.mem ((c.tc : Thread Cert.Prologue.nD Cert.Prologue.τ).loc Cert.Prologue.main_arg1) = m ((c.tc : Thread Cert.Prologue.nD Cert.Prologue.τ).loc Cert.Prologue.main_arg1)
      ∧ r.2.mem ((c.tc : Thread Cert.Prologue.nD Cert.Prologue.τ).loc Cert.Prologue.main_arg2) = m ((c.tc : Thread Cert.Prologue.nD Cert.Prologue.τ).loc Cert.Prologue.main_arg2)
      ∧ r.2.mem ((c.tc : Thread Cert.Prologue.nD Cert.Prologue.τ).loc Cert.Prologue.main_arg3) = m ((c.tc : Thread Cert.Prologue.nD Cert.Prologue.τ).loc Cert.Prologue.main_arg3)
      ∧ r.2.mem ((c.tc : Thread Cert.Prologue.nD Cert.Prologue.τ).loc Cert.Prologue.main_arg4) = m ((c.tc : Thread Cert.Prologue.nD Cert.Prologue.τ).loc Cert.Prologue.main_arg4)
      ∧ r.2.mem ((c.tc : Thread Cert.Prologue.nD Cert.Prologue.τ).loc Cert.Prologue.main_arg5) = m ((c.tc : Thread Cert.Prologue.nD Cert.Prologue.τ).loc Cert.Prologue.main_arg5)
      ∧ r.2.mem ((c.tc : Thread Cert.Prologue.nD Cert.Prologue.τ).loc Cert.Prologue.main_arg6) = m ((c.tc : Thread Cert.Prologue.nD Cert.Prologue.τ).loc Cert.Prologue.main_arg6))
      ∧ r.2.sem = fun _ => 0)

def quiescent_PrologueIdeal [hPrologueIdeal : Cert.PrologueIdeal.Facts] : Prop :=
  ∀ (m : (ℓ : Loc Cert.PrologueIdeal.nD Cert.PrologueIdeal.τ Cert.PrologueIdeal.sig) → Buf (Elt Ideal) ℓ) (g : Dev Cert.PrologueIdeal.nD → PrngReg), Pre_PrologueIdeal m →
    θ_run (Cert.PrologueIdeal.defs (F := Ideal)) (onTc (τ := Cert.PrologueIdeal.τ) (Cert.PrologueIdeal.main (F := Ideal))) ⟨m, fun _ => 0, g⟩ (fun r => (∀ c : Dev Cert.PrologueIdeal.nD,
      r.2.mem ((c.tc : Thread Cert.PrologueIdeal.nD Cert.PrologueIdeal.τ).loc Cert.PrologueIdeal.main_arg0) = m ((c.tc : Thread Cert.PrologueIdeal.nD Cert.PrologueIdeal.τ).loc Cert.PrologueIdeal.main_arg0)
      ∧ r.2.mem ((c.tc : Thread Cert.PrologueIdeal.nD Cert.PrologueIdeal.τ).loc Cert.PrologueIdeal.main_arg1) = m ((c.tc : Thread Cert.PrologueIdeal.nD Cert.PrologueIdeal.τ).loc Cert.PrologueIdeal.main_arg1)
      ∧ r.2.mem ((c.tc : Thread Cert.PrologueIdeal.nD Cert.PrologueIdeal.τ).loc Cert.PrologueIdeal.main_arg2) = m ((c.tc : Thread Cert.PrologueIdeal.nD Cert.PrologueIdeal.τ).loc Cert.PrologueIdeal.main_arg2)
      ∧ r.2.mem ((c.tc : Thread Cert.PrologueIdeal.nD Cert.PrologueIdeal.τ).loc Cert.PrologueIdeal.main_arg3) = m ((c.tc : Thread Cert.PrologueIdeal.nD Cert.PrologueIdeal.τ).loc Cert.PrologueIdeal.main_arg3)
      ∧ r.2.mem ((c.tc : Thread Cert.PrologueIdeal.nD Cert.PrologueIdeal.τ).loc Cert.PrologueIdeal.main_arg4) = m ((c.tc : Thread Cert.PrologueIdeal.nD Cert.PrologueIdeal.τ).loc Cert.PrologueIdeal.main_arg4)
      ∧ r.2.mem ((c.tc : Thread Cert.PrologueIdeal.nD Cert.PrologueIdeal.τ).loc Cert.PrologueIdeal.main_arg5) = m ((c.tc : Thread Cert.PrologueIdeal.nD Cert.PrologueIdeal.τ).loc Cert.PrologueIdeal.main_arg5)
      ∧ r.2.mem ((c.tc : Thread Cert.PrologueIdeal.nD Cert.PrologueIdeal.τ).loc Cert.PrologueIdeal.main_arg6) = m ((c.tc : Thread Cert.PrologueIdeal.nD Cert.PrologueIdeal.τ).loc Cert.PrologueIdeal.main_arg6))
      ∧ r.2.sem = fun _ => 0)

def quiescent_PrologueRefIdeal [hPrologueRefIdeal : Cert.PrologueRefIdeal.Facts] : Prop :=
  ∀ (m : (ℓ : Loc Cert.PrologueRefIdeal.nD Cert.PrologueRefIdeal.τ Cert.PrologueRefIdeal.sig) → Buf (Elt Ideal) ℓ) (g : Dev Cert.PrologueRefIdeal.nD → PrngReg), Pre_PrologueRefIdeal m →
    θ_run (Cert.PrologueRefIdeal.defs (F := Ideal)) (onTc (τ := Cert.PrologueRefIdeal.τ) (Cert.PrologueRefIdeal.main (F := Ideal))) ⟨m, fun _ => 0, g⟩ (fun r => (∀ c : Dev Cert.PrologueRefIdeal.nD,
      r.2.mem ((c.tc : Thread Cert.PrologueRefIdeal.nD Cert.PrologueRefIdeal.τ).loc Cert.PrologueRefIdeal.main_arg0) = m ((c.tc : Thread Cert.PrologueRefIdeal.nD Cert.PrologueRefIdeal.τ).loc Cert.PrologueRefIdeal.main_arg0)
      ∧ r.2.mem ((c.tc : Thread Cert.PrologueRefIdeal.nD Cert.PrologueRefIdeal.τ).loc Cert.PrologueRefIdeal.main_arg1) = m ((c.tc : Thread Cert.PrologueRefIdeal.nD Cert.PrologueRefIdeal.τ).loc Cert.PrologueRefIdeal.main_arg1)
      ∧ r.2.mem ((c.tc : Thread Cert.PrologueRefIdeal.nD Cert.PrologueRefIdeal.τ).loc Cert.PrologueRefIdeal.main_arg2) = m ((c.tc : Thread Cert.PrologueRefIdeal.nD Cert.PrologueRefIdeal.τ).loc Cert.PrologueRefIdeal.main_arg2)
      ∧ r.2.mem ((c.tc : Thread Cert.PrologueRefIdeal.nD Cert.PrologueRefIdeal.τ).loc Cert.PrologueRefIdeal.main_arg3) = m ((c.tc : Thread Cert.PrologueRefIdeal.nD Cert.PrologueRefIdeal.τ).loc Cert.PrologueRefIdeal.main_arg3)
      ∧ r.2.mem ((c.tc : Thread Cert.PrologueRefIdeal.nD Cert.PrologueRefIdeal.τ).loc Cert.PrologueRefIdeal.main_arg4) = m ((c.tc : Thread Cert.PrologueRefIdeal.nD Cert.PrologueRefIdeal.τ).loc Cert.PrologueRefIdeal.main_arg4)
      ∧ r.2.mem ((c.tc : Thread Cert.PrologueRefIdeal.nD Cert.PrologueRefIdeal.τ).loc Cert.PrologueRefIdeal.main_arg5) = m ((c.tc : Thread Cert.PrologueRefIdeal.nD Cert.PrologueRefIdeal.τ).loc Cert.PrologueRefIdeal.main_arg5)
      ∧ r.2.mem ((c.tc : Thread Cert.PrologueRefIdeal.nD Cert.PrologueRefIdeal.τ).loc Cert.PrologueRefIdeal.main_arg6) = m ((c.tc : Thread Cert.PrologueRefIdeal.nD Cert.PrologueRefIdeal.τ).loc Cert.PrologueRefIdeal.main_arg6))
      ∧ r.2.sem = fun _ => 0)

def preserves_Dft_DftIdeal : Prop :=
  True

def algebraic_DftIdeal_DftRefIdeal_pre_finite [hDftIdeal : Cert.DftIdeal.Facts] [hDftRefIdeal : Cert.DftRefIdeal.Facts] [hPre_finite : Cert.Pre_finite.Facts] : Prop :=
  ∀ (m : (ℓ : Loc Cert.DftIdeal.nD Cert.DftIdeal.τ Cert.DftIdeal.sig) → Buf (Elt Ideal) ℓ) (g : Dev Cert.DftIdeal.nD → PrngReg)
    (m' : (ℓ : Loc Cert.DftRefIdeal.nD Cert.DftRefIdeal.τ Cert.DftRefIdeal.sig) → Buf (Elt Ideal) ℓ) (g' : Dev Cert.DftRefIdeal.nD → PrngReg), Pre_DftIdeal_finite m →
    (∀ c : Dev Cert.DftIdeal.nD,
      m' ((c.tc : Thread Cert.DftRefIdeal.nD Cert.DftRefIdeal.τ).loc Cert.DftRefIdeal.main_arg0) = m ((c.tc : Thread Cert.DftIdeal.nD Cert.DftIdeal.τ).loc Cert.DftIdeal.main_arg0)
      ∧ m' ((c.tc : Thread Cert.DftRefIdeal.nD Cert.DftRefIdeal.τ).loc Cert.DftRefIdeal.main_arg1) = m ((c.tc : Thread Cert.DftIdeal.nD Cert.DftIdeal.τ).loc Cert.DftIdeal.main_arg1)) →
    ∃ (v0 : (c : Dev Cert.DftIdeal.nD) → Buf (Elt Ideal) ((c.tc : Thread Cert.DftIdeal.nD Cert.DftIdeal.τ).loc Cert.DftIdeal.main_v42)),
      θ_run (Cert.DftIdeal.defs (F := Ideal)) (onTc (τ := Cert.DftIdeal.τ) (Cert.DftIdeal.main (F := Ideal))) ⟨m, fun _ => 0, g⟩ (fun r => ∀ c : Dev Cert.DftIdeal.nD,
          r.2.mem ((c.tc : Thread Cert.DftIdeal.nD Cert.DftIdeal.τ).loc Cert.DftIdeal.main_v42) = v0 c
          ∧ r.2.mem ((c.tc : Thread Cert.DftIdeal.nD Cert.DftIdeal.τ).loc Cert.DftIdeal.main_arg0) = m ((c.tc : Thread Cert.DftIdeal.nD Cert.DftIdeal.τ).loc Cert.DftIdeal.main_arg0)
          ∧ r.2.mem ((c.tc : Thread Cert.DftIdeal.nD Cert.DftIdeal.τ).loc Cert.DftIdeal.main_arg1) = m ((c.tc : Thread Cert.DftIdeal.nD Cert.DftIdeal.τ).loc Cert.DftIdeal.main_arg1))
      ∧ θ_run (Cert.DftRefIdeal.defs (F := Ideal)) (onTc (τ := Cert.DftRefIdeal.τ) (Cert.DftRefIdeal.main (F := Ideal))) ⟨m', fun _ => 0, g'⟩ (fun r => ∀ c : Dev Cert.DftRefIdeal.nD,
          r.2.mem ((c.tc : Thread Cert.DftRefIdeal.nD Cert.DftRefIdeal.τ).loc Cert.DftRefIdeal.main_v18) = v0 c
          ∧ r.2.mem ((c.tc : Thread Cert.DftRefIdeal.nD Cert.DftRefIdeal.τ).loc Cert.DftRefIdeal.main_arg0) = m' ((c.tc : Thread Cert.DftRefIdeal.nD Cert.DftRefIdeal.τ).loc Cert.DftRefIdeal.main_arg0)
          ∧ r.2.mem ((c.tc : Thread Cert.DftRefIdeal.nD Cert.DftRefIdeal.τ).loc Cert.DftRefIdeal.main_arg1) = m' ((c.tc : Thread Cert.DftRefIdeal.nD Cert.DftRefIdeal.τ).loc Cert.DftRefIdeal.main_arg1))

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)) →
    ∃ (v0 : (c : Dev Cert.MlpIdeal.nD) → Buf (Elt Ideal) ((c.tc : Thread Cert.MlpIdeal.nD Cert.MlpIdeal.τ).loc Cert.MlpIdeal.main_v6)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v6) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v18) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v14_0)) (v1 : (c : Dev Cert.MergeIdeal.nD) → Buf (Elt Ideal) ((c.tc : Thread Cert.MergeIdeal.nD Cert.MergeIdeal.τ).loc Cert.MergeIdeal.main_v14_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v14_0) = v0 c
          ∧ r.2.mem ((c.tc : Thread Cert.MergeIdeal.nD Cert.MergeIdeal.τ).loc Cert.MergeIdeal.main_v14_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v16) = v0 c
          ∧ r.2.mem ((c.tc : Thread Cert.MergeRefIdeal.nD Cert.MergeRefIdeal.τ).loc Cert.MergeRefIdeal.main_v31) = v1 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v20_0)) (v1 : (c : Dev Cert.InProjIdeal.nD) → Buf (Elt Ideal) ((c.tc : Thread Cert.InProjIdeal.nD Cert.InProjIdeal.τ).loc Cert.InProjIdeal.main_v20_1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v20_0) = v0 c
          ∧ r.2.mem ((c.tc : Thread Cert.InProjIdeal.nD Cert.InProjIdeal.τ).loc Cert.InProjIdeal.main_v20_1) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v24) = v0 c
          ∧ r.2.mem ((c.tc : Thread Cert.InProjRefIdeal.nD Cert.InProjRefIdeal.τ).loc Cert.InProjRefIdeal.main_v28) = v1 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_Delta_DeltaIdeal : Prop :=
  True

def preserves_Prologue_PrologueIdeal : Prop :=
  True

def Claim : Prop :=
  ∃ (hDft : Cert.Dft.Facts) (hDftIdeal : Cert.DftIdeal.Facts) (hDftRefIdeal : Cert.DftRefIdeal.Facts) (hMlp : Cert.Mlp.Facts) (hMlpIdeal : Cert.MlpIdeal.Facts) (hMlpRefIdeal : Cert.MlpRefIdeal.Facts) (hMerge : Cert.Merge.Facts) (hMergeIdeal : Cert.MergeIdeal.Facts) (hMergeRefIdeal : Cert.MergeRefIdeal.Facts) (hInProj : Cert.InProj.Facts) (hInProjIdeal : Cert.InProjIdeal.Facts) (hInProjRefIdeal : Cert.InProjRefIdeal.Facts) (hDelta : Cert.Delta.Facts) (hDeltaIdeal : Cert.DeltaIdeal.Facts) (hDeltaRefIdeal : Cert.DeltaRefIdeal.Facts) (hPrologue : Cert.Prologue.Facts) (hPrologueIdeal : Cert.PrologueIdeal.Facts) (hPrologueRefIdeal : Cert.PrologueRefIdeal.Facts) (hPre_finite : Cert.Pre_finite.Facts),
    quiescent_Dft (hDft := hDft)
    ∧ quiescent_DftIdeal (hDftIdeal := hDftIdeal)
    ∧ quiescent_DftIdeal_pre_finite (hDftIdeal := hDftIdeal) (hPre_finite := hPre_finite)
    ∧ quiescent_DftRefIdeal (hDftRefIdeal := hDftRefIdeal)
    ∧ quiescent_DftRefIdeal_pre_finite (hDftRefIdeal := hDftRefIdeal) (hPre_finite := hPre_finite)
    ∧ quiescent_Mlp (hMlp := hMlp)
    ∧ quiescent_MlpIdeal (hMlpIdeal := hMlpIdeal)
    ∧ quiescent_MlpRefIdeal (hMlpRefIdeal := hMlpRefIdeal)
    ∧ quiescent_Merge (hMerge := hMerge)
    ∧ quiescent_MergeIdeal (hMergeIdeal := hMergeIdeal)
    ∧ quiescent_MergeRefIdeal (hMergeRefIdeal := hMergeRefIdeal)
    ∧ quiescent_InProj (hInProj := hInProj)
    ∧ quiescent_InProjIdeal (hInProjIdeal := hInProjIdeal)
    ∧ quiescent_InProjRefIdeal (hInProjRefIdeal := hInProjRefIdeal)
    ∧ quiescent_Delta (hDelta := hDelta)
    ∧ quiescent_DeltaIdeal (hDeltaIdeal := hDeltaIdeal)
    ∧ quiescent_DeltaRefIdeal (hDeltaRefIdeal := hDeltaRefIdeal)
    ∧ quiescent_Prologue (hPrologue := hPrologue)
    ∧ quiescent_PrologueIdeal (hPrologueIdeal := hPrologueIdeal)
    ∧ quiescent_PrologueRefIdeal (hPrologueRefIdeal := hPrologueRefIdeal)
    ∧ preserves_Dft_DftIdeal
    ∧ algebraic_DftIdeal_DftRefIdeal_pre_finite (hDftIdeal := hDftIdeal) (hDftRefIdeal := hDftRefIdeal) (hPre_finite := hPre_finite)
    ∧ preserves_Mlp_MlpIdeal
    ∧ algebraic_MlpIdeal_MlpRefIdeal (hMlpIdeal := hMlpIdeal) (hMlpRefIdeal := hMlpRefIdeal)
    ∧ preserves_Merge_MergeIdeal
    ∧ algebraic_MergeIdeal_MergeRefIdeal (hMergeIdeal := hMergeIdeal) (hMergeRefIdeal := hMergeRefIdeal)
    ∧ preserves_InProj_InProjIdeal
    ∧ algebraic_InProjIdeal_InProjRefIdeal (hInProjIdeal := hInProjIdeal) (hInProjRefIdeal := hInProjRefIdeal)
    ∧ preserves_Delta_DeltaIdeal
    ∧ preserves_Prologue_PrologueIdeal
-- ==== Pre_finite.lean ====
abbrev S4x2048x1024 : Shape := ⟨3, ![4, 2048, 1024]⟩
abbrev S_ : Shape := ⟨0, ![]⟩

class Facts : Prop where
  bcast_S_S4x2048x1024 : S_.BroadcastsInDim S4x2048x1024 (![] : Fin 0 → Fin S4x2048x1024.rank)

variable [Facts]

def fn {F : FTy → Type} [FloatOps F] (main_arg0 : FVec F S4x2048x1024 .f32) (main_arg1 : FVec F S4x2048x1024 .f32) : IVec S4x2048x1024 1 :=
  let main_v0 : FVec F S4x2048x1024 .f32 := Host.absf main_arg1
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  main_v2
-- ==== Dft.lean ====
abbrev S4x2048x1024 : Shape := ⟨3, ![4, 2048, 1024]⟩
abbrev S1032x2048 : Shape := ⟨2, ![1032, 2048]⟩
abbrev S_ : Shape := ⟨0, ![]⟩
abbrev S1024x2048 : Shape := ⟨2, ![1024, 2048]⟩
abbrev S1024x1024 : Shape := ⟨2, ![1024, 1024]⟩
abbrev S1x4x2048x1024 : Shape := ⟨4, ![1, 4, 2048, 1024]⟩
abbrev S2x4x2048x1024 : Shape := ⟨4, ![2, 4, 2048, 1024]⟩
abbrev S2x2048x4x1024 : Shape := ⟨4, ![2, 2048, 4, 1024]⟩
abbrev S2x2048x4096 : Shape := ⟨3, ![2, 2048, 4096]⟩
abbrev S2048x4096 : Shape := ⟨2, ![2048, 4096]⟩
abbrev S2x2048x1024 : Shape := ⟨3, ![2, 2048, 1024]⟩
abbrev S2048x1024 : Shape := ⟨2, ![2048, 1024]⟩
abbrev S1024x512 : Shape := ⟨2, ![1024, 512]⟩
abbrev S1x2048x512 : Shape := ⟨3, ![1, 2048, 512]⟩
abbrev S2048x512 : Shape := ⟨2, ![2048, 512]⟩
abbrev S1032x512 : Shape := ⟨2, ![1032, 512]⟩
abbrev S1x512 : Shape := ⟨2, ![1, 512]⟩

abbrev nBuf : Space → Nat
  | .hbm => 59
  | .vmem => 7
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S1032x2048, .i32⟩
  | .hbm, ⟨3, _⟩ => ⟨S1032x2048, .i32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S1032x2048, .i32⟩
  | .hbm, ⟨11, _⟩ => ⟨S_, .i32⟩
  | .hbm, ⟨12, _⟩ => ⟨S1032x2048, .i32⟩
  | .hbm, ⟨13, _⟩ => ⟨S1032x2048, .i32⟩
  | .hbm, ⟨14, _⟩ => ⟨S1032x2048, .f32⟩
  | .hbm, ⟨15, _⟩ => ⟨S1032x2048, .f32⟩
  | .hbm, ⟨16, _⟩ => ⟨S1032x2048, .f32⟩
  | .hbm, ⟨17, _⟩ => ⟨S1032x2048, .f32⟩
  | .hbm, ⟨18, _⟩ => ⟨S1024x2048, .i32⟩
  | .hbm, ⟨19, _⟩ => ⟨S1024x2048, .i32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S1024x2048, .i32⟩
  | .hbm, ⟨27, _⟩ => ⟨S_, .i32⟩
  | .hbm, ⟨28, _⟩ => ⟨S1024x2048, .i32⟩
  | .hbm, ⟨29, _⟩ => ⟨S1024x2048, .i32⟩
  | .hbm, ⟨30, _⟩ => ⟨S1024x2048, .f32⟩
  | .hbm, ⟨31, _⟩ => ⟨S1024x2048, .f32⟩
  | .hbm, ⟨32, _⟩ => ⟨S1024x2048, .f32⟩
  | .hbm, ⟨33, _⟩ => ⟨S1024x2048, .f32⟩
  | .hbm, ⟨34, _⟩ => ⟨S1024x1024, .i32⟩
  | .hbm, ⟨35, _⟩ => ⟨S1024x1024, .i32⟩
  | .hbm, ⟨36, _⟩ => ⟨S_, .i32⟩
  | .hbm, ⟨37, _⟩ => ⟨S1024x1024, .i32⟩
  | .hbm, ⟨38, _⟩ => ⟨S1024x1024, .i1⟩
  | .hbm, ⟨39, _⟩ => ⟨S1024x1024, .i32⟩
  | .hbm, ⟨40, _⟩ => ⟨S_, .i32⟩
  | .hbm, ⟨41, _⟩ => ⟨S1024x1024, .i32⟩
  | .hbm, ⟨42, _⟩ => ⟨S1024x1024, .i1⟩
  | .hbm, ⟨43, _⟩ => ⟨S1024x1024, .i1⟩
  | .hbm, ⟨44, _⟩ => ⟨S_, .f32⟩
  | .hbm, ⟨45, _⟩ => ⟨S_, .f32⟩
  | .hbm, ⟨46, _⟩ => ⟨S1024x1024, .f32⟩
  | .hbm, ⟨47, _⟩ => ⟨S1024x1024, .f32⟩
  | .hbm, ⟨48, _⟩ => ⟨S1024x1024, .f32⟩
  | .hbm, ⟨49, _⟩ => ⟨S1x4x2048x1024, .f32⟩
  | .hbm, ⟨50, _⟩ => ⟨S1x4x2048x1024, .f32⟩
  | .hbm, ⟨51, _⟩ => ⟨S2x4x2048x1024, .f32⟩
  | .hbm, ⟨52, _⟩ => ⟨S2x2048x4x1024, .f32⟩
  | .hbm, ⟨53, _⟩ => ⟨S2x2048x4096, .f32⟩
  | .hbm, ⟨54, _⟩ => ⟨S2x2048x4096, .bf16⟩
  | .hbm, ⟨55, _⟩ => ⟨S1032x2048, .bf16⟩
  | .hbm, ⟨56, _⟩ => ⟨S1024x2048, .bf16⟩
  | .hbm, ⟨57, _⟩ => ⟨S1024x1024, .bf16⟩
  | .hbm, ⟨58, _⟩ => ⟨S2048x4096, .bf16⟩
  | .local _ .vmem, ⟨0, _⟩ => ⟨S2x2048x1024, .bf16⟩
  | .local _ .vmem, ⟨1, _⟩ => ⟨S2x2048x1024, .bf16⟩
  | .local _ .vmem, ⟨2, _⟩ => ⟨S1032x2048, .bf16⟩
  | .local _ .vmem, ⟨3, _⟩ => ⟨S1024x2048, .bf16⟩
  | .local _ .vmem, ⟨4, _⟩ => ⟨S1024x1024, .bf16⟩
  | .local _ .vmem, ⟨5, _⟩ => ⟨S2048x1024, .bf16⟩
  | .local _ .vmem, ⟨6, _⟩ => ⟨S2048x1024, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_v17 : Ref sig .tc := ⟨.hbm, 26, rfl⟩
abbrev main_c_5 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_c_6 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_c_7 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_8 : Ref sig .tc := ⟨.hbm, 44, rfl⟩
abbrev main_cst_9 : Ref sig .tc := ⟨.hbm, 45, rfl⟩
abbrev main_call0_v0 : Ref sig .tc := ⟨.hbm, 46, rfl⟩
abbrev main_call0_v1 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1032x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== DftRefIdeal.lean ====
abbrev S4x2048x1024 : Shape := ⟨3, ![4, 2048, 1024]⟩
abbrev S2048x2048 : Shape := ⟨2, ![2048, 2048]⟩
abbrev S_ : Shape := ⟨0, ![]⟩
abbrev S2048x4x1024 : Shape := ⟨3, ![2048, 4, 1024]⟩
abbrev S2048x4096 : Shape := ⟨2, ![2048, 4096]⟩

abbrev nBuf : Space → Nat
  | .hbm => 25
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S2048x2048, .i32⟩
  | .hbm, ⟨3, _⟩ => ⟨S2048x2048, .i32⟩
  | .hbm, ⟨4, _⟩ => ⟨S2048x2048, .i32⟩
  | .hbm, ⟨5, _⟩ => ⟨S2048x2048, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S2048x4x1024, .f32⟩
  | .hbm, ⟨16, _⟩ => ⟨S2048x2048, .f32⟩
  | .hbm, ⟨17, _⟩ => ⟨S2048x4x1024, .f32⟩
  | .hbm, ⟨18, _⟩ => ⟨S2048x4x1024, .f32⟩
  | .hbm, ⟨19, _⟩ => ⟨S_, .f32⟩
  | .hbm, ⟨20, _⟩ => ⟨S_, .f32⟩
  | .hbm, ⟨21, _⟩ => ⟨S2048x4x1024, .f32⟩
  | .hbm, ⟨22, _⟩ => ⟨S2048x4x1024, .f32⟩
  | .hbm, ⟨23, _⟩ => ⟨S2048x4x1024, .bf16⟩
  | .hbm, ⟨24, _⟩ => ⟨S2048x4096, .bf16⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Mlp.lean ====
abbrev S4x2048x2048 : Shape := ⟨3, ![4, 2048, 2048]⟩
abbrev S2048x8192 : Shape := ⟨2, ![2048, 8192]⟩
abbrev S8192x2048 : Shape := ⟨2, ![8192, 2048]⟩
abbrev S2048 : Shape := ⟨1, ![2048]⟩
abbrev S1x2048 : Shape := ⟨2, ![1, 2048]⟩
abbrev S512x2048 : Shape := ⟨2, ![512, 2048]⟩
abbrev S2048x1024 : Shape := ⟨2, ![2048, 1024]⟩
abbrev S1024x2048 : Shape := ⟨2, ![1024, 2048]⟩
abbrev S512x1024 : Shape := ⟨2, ![512, 1024]⟩
abbrev S512 : Shape := ⟨1, ![512]⟩
abbrev S512x1 : Shape := ⟨2, ![512, 1]⟩

abbrev nBuf : Space → Nat
  | .hbm => 12
  | .vmem => 11
  | .smem => 0
  | _ => 0

abbrev bufTy : (tb : Table) → Fin (tcTables nBuf tb) → BufTy
  | .hbm, ⟨0, _⟩ => ⟨S4x2048x2048, .f32⟩
  | .hbm, ⟨1, _⟩ => ⟨S4x2048x2048, .f32⟩
  | .hbm, ⟨2, _⟩ => ⟨S2048x8192, .f32⟩
  | .hbm, ⟨3, _⟩ => ⟨S8192x2048, .f32⟩
  | .hbm, ⟨4, _⟩ => ⟨S2048, .f32⟩
  | .hbm, ⟨5, _⟩ => ⟨S8192x2048, .f32⟩
  | .hbm, ⟨6, _⟩ => ⟨S8192x2048, .bf16⟩
  | .hbm, ⟨7, _⟩ => ⟨S2048x8192, .bf16⟩
  | .hbm, ⟨8, _⟩ => ⟨S8192x2048, .bf16⟩
  | .hbm, ⟨9, _⟩ => ⟨S8192x2048, .f32⟩
  | .hbm, ⟨10, _⟩ => ⟨S1x2048, .f32⟩
  | .hbm, ⟨11, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x2048, .bf16⟩
  | .local _ .vmem, ⟨5, _⟩ => ⟨S1024x2048, .bf16⟩
  | .local _ .vmem, ⟨6, _⟩ => ⟨S512x2048, .f32⟩
  | .local _ .vmem, ⟨7, _⟩ => ⟨S512x2048, .f32⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== MlpRefIdeal.lean ====
abbrev S4x2048x2048 : Shape := ⟨3, ![4, 2048, 2048]⟩
abbrev S2048x8192 : Shape := ⟨2, ![2048, 8192]⟩
abbrev S8192x2048 : Shape := ⟨2, ![8192, 2048]⟩
abbrev S2048 : Shape := ⟨1, ![2048]⟩
abbrev S4x2048x8192 : Shape := ⟨3, ![4, 2048, 8192]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩

abbrev nBuf : Space → Nat
  | .hbm => 29
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S4x2048x2048, .f32⟩
  | .hbm, ⟨2, _⟩ => ⟨S2048x8192, .f32⟩
  | .hbm, ⟨3, _⟩ => ⟨S8192x2048, .f32⟩
  | .hbm, ⟨4, _⟩ => ⟨S2048, .f32⟩
  | .hbm, ⟨5, _⟩ => ⟨S4x2048x8192, .f32⟩
  | .hbm, ⟨6, _⟩ => ⟨S_, .f32⟩
  | .hbm, ⟨7, _⟩ => ⟨S4x2048x8192, .f32⟩
  | .hbm, ⟨8, _⟩ => ⟨S4x2048x8192, .f32⟩
  | .hbm, ⟨9, _⟩ => ⟨S4x2048x8192, .f32⟩
  | .hbm, ⟨10, _⟩ => ⟨S4x2048x2048, .f32⟩
  | .hbm, ⟨11, _⟩ => ⟨S4x2048x2048, .f32⟩
  | .hbm, ⟨12, _⟩ => ⟨S4x2048x2048, .f32⟩
  | .hbm, ⟨13, _⟩ => ⟨S_, .f32⟩
  | .hbm, ⟨14, _⟩ => ⟨S4x2048, .f32⟩
  | .hbm, ⟨15, _⟩ => ⟨S4x2048x1, .f32⟩
  | .hbm, ⟨16, _⟩ => ⟨S_, .f32⟩
  | .hbm, ⟨17, _⟩ => ⟨S4x2048x1, .f32⟩
  | .hbm, ⟨18, _⟩ => ⟨S4x2048x1, .f32⟩
  | .hbm, ⟨19, _⟩ => ⟨S_, .f32⟩
  | .hbm, ⟨20, _⟩ => ⟨S4x2048x1, .f32⟩
  | .hbm, ⟨21, _⟩ => ⟨S4x2048x1, .f32⟩
  | .hbm, ⟨22, _⟩ => ⟨S4x2048x1, .f32⟩
  | .hbm, ⟨23, _⟩ => ⟨S4x2048x2048, .f32⟩
  | .hbm, ⟨24, _⟩ => ⟨S4x2048x2048, .f32⟩
  | .hbm, ⟨25, _⟩ => ⟨S1x1x2048, .f32⟩
  | .hbm, ⟨26, _⟩ => ⟨S4x2048x2048, .f32⟩
  | .hbm, ⟨27, _⟩ => ⟨S4x2048x2048, .f32⟩
  | .hbm, ⟨28, _⟩ => ⟨S8192x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_cst : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]
-- ==== Merge.lean ====
abbrev S4x2048x1024 : Shape := ⟨3, ![4, 2048, 1024]⟩
abbrev S4x2048x9248 : Shape := ⟨3, ![4, 2048, 9248]⟩
abbrev S4x2048x2048 : Shape := ⟨3, ![4, 2048, 2048]⟩
abbrev S1024x2048 : Shape := ⟨2, ![1024, 2048]⟩
abbrev S2048x2048 : Shape := ⟨2, ![2048, 2048]⟩
abbrev S2048 : Shape := ⟨1, ![2048]⟩
abbrev S4x2048x4096 : Shape := ⟨3, ![4, 2048, 4096]⟩
abbrev S4x2048x5120 : Shape := ⟨3, ![4, 2048, 5120]⟩
abbrev S4x2048x9216 : Shape := ⟨3, ![4, 2048, 9216]⟩
abbrev S8192x1024 : Shape := ⟨2, ![8192, 1024]⟩
abbrev S2048x4x1024 : Shape := ⟨3, ![2048, 4, 1024]⟩
abbrev S2048x4096 : Shape := ⟨2, ![2048, 4096]⟩
abbrev S8192x9216 : Shape := ⟨2, ![8192, 9216]⟩
abbrev S8192x2048 : Shape := ⟨2, ![8192, 2048]⟩
abbrev S1x2048 : Shape := ⟨2, ![1, 2048]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩

abbrev nBuf : Space → Nat
  | .hbm => 24
  | .vmem => 18
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x9248, .f32⟩
  | .hbm, ⟨3, _⟩ => ⟨S4x2048x2048, .f32⟩
  | .hbm, ⟨4, _⟩ => ⟨S1024x2048, .f32⟩
  | .hbm, ⟨5, _⟩ => ⟨S1024x2048, .f32⟩
  | .hbm, ⟨6, _⟩ => ⟨S2048x2048, .f32⟩
  | .hbm, ⟨7, _⟩ => ⟨S2048, .f32⟩
  | .hbm, ⟨8, _⟩ => ⟨S4x2048x4096, .f32⟩
  | .hbm, ⟨9, _⟩ => ⟨S4x2048x5120, .f32⟩
  | .hbm, ⟨10, _⟩ => ⟨S4x2048x9216, .f32⟩
  | .hbm, ⟨11, _⟩ => ⟨S8192x1024, .f32⟩
  | .hbm, ⟨12, _⟩ => ⟨S8192x1024, .bf16⟩
  | .hbm, ⟨13, _⟩ => ⟨S2048x4x1024, .f32⟩
  | .hbm, ⟨14, _⟩ => ⟨S2048x4096, .f32⟩
  | .hbm, ⟨15, _⟩ => ⟨S2048x4096, .bf16⟩
  | .hbm, ⟨16, _⟩ => ⟨S8192x9216, .f32⟩
  | .hbm, ⟨17, _⟩ => ⟨S8192x2048, .f32⟩
  | .hbm, ⟨18, _⟩ => ⟨S1024x2048, .bf16⟩
  | .hbm, ⟨19, _⟩ => ⟨S1024x2048, .bf16⟩
  | .hbm, ⟨20, _⟩ => ⟨S2048x2048, .bf16⟩
  | .hbm, ⟨21, _⟩ => ⟨S1x2048, .f32⟩
  | .hbm, ⟨22, _⟩ => ⟨S8192x2048, .f32⟩
  | .hbm, ⟨23, _⟩ => ⟨S8192x2048, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S1024x2048, .bf16⟩
  | .local _ .vmem, ⟨11, _⟩ => ⟨S1024x2048, .bf16⟩
  | .local _ .vmem, ⟨12, _⟩ => ⟨S2048x2048, .bf16⟩
  | .local _ .vmem, ⟨13, _⟩ => ⟨S1x2048, .f32⟩
  | .local _ .vmem, ⟨14, _⟩ => ⟨S256x2048, .f32⟩
  | .local _ .vmem, ⟨15, _⟩ => ⟨S256x2048, .f32⟩
  | .local _ .vmem, ⟨16, _⟩ => ⟨S256x2048, .bf16⟩
  | .local _ .vmem, ⟨17, _⟩ => ⟨S256x2048, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14_0 : Ref sig .tc := ⟨.hbm, 22, rfl⟩
abbrev main_v14_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c8_i32_3 : BitVec 32 := 8#32
  let v10 : BitVec 32 := Scalar.divsi arg0 c8_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c8_i32_3 c0_i32_6
  let v17 : BitVec 32 := Scalar.extui v16
  let c0_i32_7 : BitVec 32 := 0#32
  let v18 : BitVec 1 := Scalar.cmpi .slt c8_i32_3 c0_i32_7
  let v19 : BitVec 32 := Scalar.extui v18
  let v20 : BitVec 32 := Scalar.subi v17 v19
  let v21 : BitVec 1 := Scalar.cmpi .ne v15 v20
  let v22 : BitVec 32 := Scalar.remsi arg0 c8_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  ![v9.toNat, v26.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MergeRefIdeal.lean ====
abbrev S4x2048x1024 : Shape := ⟨3, ![4, 2048, 1024]⟩
abbrev S4x2048x9248 : Shape := ⟨3, ![4, 2048, 9248]⟩
abbrev S4x2048x2048 : Shape := ⟨3, ![4, 2048, 2048]⟩
abbrev S1024x2048 : Shape := ⟨2, ![1024, 2048]⟩
abbrev S2048x2048 : Shape := ⟨2, ![2048, 2048]⟩
abbrev S2048 : Shape := ⟨1, ![2048]⟩
abbrev S4x2048x4096 : Shape := ⟨3, ![4, 2048, 4096]⟩
abbrev S_ : Shape := ⟨0, ![]⟩
abbrev S8192x2048 : Shape := ⟨2, ![8192, 2048]⟩
abbrev S4x2048 : Shape := ⟨2, ![4, 2048]⟩
abbrev S4x2048x1 : Shape := ⟨3, ![4, 2048, 1]⟩
abbrev S1x1x2048 : Shape := ⟨3, ![1, 1, 2048]⟩

abbrev nBuf : Space → Nat
  | .hbm => 45
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x9248, .f32⟩
  | .hbm, ⟨3, _⟩ => ⟨S4x2048x2048, .f32⟩
  | .hbm, ⟨4, _⟩ => ⟨S1024x2048, .f32⟩
  | .hbm, ⟨5, _⟩ => ⟨S1024x2048, .f32⟩
  | .hbm, ⟨6, _⟩ => ⟨S2048x2048, .f32⟩
  | .hbm, ⟨7, _⟩ => ⟨S2048, .f32⟩
  | .hbm, ⟨8, _⟩ => ⟨S4x2048x2048, .f32⟩
  | .hbm, ⟨9, _⟩ => ⟨S4x2048x2048, .f32⟩
  | .hbm, ⟨10, _⟩ => ⟨S4x2048x4096, .f32⟩
  | .hbm, ⟨11, _⟩ => ⟨S4x2048x4096, .f32⟩
  | .hbm, ⟨12, _⟩ => ⟨S4x2048x4096, .f32⟩
  | .hbm, ⟨13, _⟩ => ⟨S_, .f32⟩
  | .hbm, ⟨14, _⟩ => ⟨S4x2048x4096, .f32⟩
  | .hbm, ⟨15, _⟩ => ⟨S4x2048x4096, .f32⟩
  | .hbm, ⟨16, _⟩ => ⟨S_, .f32⟩
  | .hbm, ⟨17, _⟩ => ⟨S4x2048x4096, .f32⟩
  | .hbm, ⟨18, _⟩ => ⟨S4x2048x4096, .f32⟩
  | .hbm, ⟨19, _⟩ => ⟨S4x2048x2048, .f32⟩
  | .hbm, ⟨20, _⟩ => ⟨S4x2048x2048, .f32⟩
  | .hbm, ⟨21, _⟩ => ⟨S4x2048x2048, .f32⟩
  | .hbm, ⟨22, _⟩ => ⟨S4x2048x2048, .f32⟩
  | .hbm, ⟨23, _⟩ => ⟨S4x2048x2048, .f32⟩
  | .hbm, ⟨24, _⟩ => ⟨S4x2048x2048, .f32⟩
  | .hbm, ⟨25, _⟩ => ⟨S4x2048x2048, .f32⟩
  | .hbm, ⟨26, _⟩ => ⟨S8192x2048, .f32⟩
  | .hbm, ⟨27, _⟩ => ⟨S4x2048x2048, .f32⟩
  | .hbm, ⟨28, _⟩ => ⟨S_, .f32⟩
  | .hbm, ⟨29, _⟩ => ⟨S4x2048, .f32⟩
  | .hbm, ⟨30, _⟩ => ⟨S4x2048x1, .f32⟩
  | .hbm, ⟨31, _⟩ => ⟨S_, .f32⟩
  | .hbm, ⟨32, _⟩ => ⟨S4x2048x1, .f32⟩
  | .hbm, ⟨33, _⟩ => ⟨S4x2048x1, .f32⟩
  | .hbm, ⟨34, _⟩ => ⟨S_, .f32⟩
  | .hbm, ⟨35, _⟩ => ⟨S4x2048x1, .f32⟩
  | .hbm, ⟨36, _⟩ => ⟨S4x2048x1, .f32⟩
  | .hbm, ⟨37, _⟩ => ⟨S4x2048x1, .f32⟩
  | .hbm, ⟨38, _⟩ => ⟨S4x2048x2048, .f32⟩
  | .hbm, ⟨39, _⟩ => ⟨S4x2048x2048, .f32⟩
  | .hbm, ⟨40, _⟩ => ⟨S1x1x2048, .f32⟩
  | .hbm, ⟨41, _⟩ => ⟨S4x2048x2048, .f32⟩
  | .hbm, ⟨42, _⟩ => ⟨S4x2048x2048, .f32⟩
  | .hbm, ⟨43, _⟩ => ⟨S4x2048x2048, .bf16⟩
  | .hbm, ⟨44, _⟩ => ⟨S8192x2048, .bf16⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]
-- ==== InProj.lean ====
abbrev S4x2048x2048 : Shape := ⟨3, ![4, 2048, 2048]⟩
abbrev S2048x9248 : Shape := ⟨2, ![2048, 9248]⟩
abbrev S9 : Shape := ⟨1, ![9]⟩
abbrev S128x128 : Shape := ⟨2, ![128, 128]⟩
abbrev S_ : Shape := ⟨0, ![]⟩
abbrev S128x256 : Shape := ⟨2, ![128, 256]⟩
abbrev S8192x2048 : Shape := ⟨2, ![8192, 2048]⟩
abbrev S9248x2048 : Shape := ⟨2, ![9248, 2048]⟩
abbrev S8192x9216 : Shape := ⟨2, ![8192, 9216]⟩
abbrev S2x2048x4096 : Shape := ⟨3, ![2, 2048, 4096]⟩
abbrev S1024x2048 : Shape := ⟨2, ![1024, 2048]⟩
abbrev S1 : Shape := ⟨1, ![1]⟩
abbrev S1024x1024 : Shape := ⟨2, ![1024, 1024]⟩
abbrev S2x1024x1024 : Shape := ⟨3, ![2, 1024, 1024]⟩
abbrev S1024x128 : Shape := ⟨2, ![1024, 128]⟩
abbrev S1024x256 : Shape := ⟨2, ![1024, 256]⟩
abbrev S1x1024x128 : Shape := ⟨3, ![1, 1024, 128]⟩

abbrev nBuf : Space → Nat
  | .hbm => 28
  | .vmem => 9
  | .smem => 1
  | _ => 0

abbrev bufTy : (tb : Table) → Fin (tcTables nBuf tb) → BufTy
  | .hbm, ⟨0, _⟩ => ⟨S4x2048x2048, .f32⟩
  | .hbm, ⟨1, _⟩ => ⟨S2048x9248, .f32⟩
  | .hbm, ⟨2, _⟩ => ⟨S128x128, .i32⟩
  | .hbm, ⟨3, _⟩ => ⟨S128x128, .i32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S128x128, .i32⟩
  | .hbm, ⟨11, _⟩ => ⟨S_, .i32⟩
  | .hbm, ⟨12, _⟩ => ⟨S128x128, .i32⟩
  | .hbm, ⟨13, _⟩ => ⟨S128x128, .i32⟩
  | .hbm, ⟨14, _⟩ => ⟨S128x128, .f32⟩
  | .hbm, ⟨15, _⟩ => ⟨S128x128, .f32⟩
  | .hbm, ⟨16, _⟩ => ⟨S128x128, .f32⟩
  | .hbm, ⟨17, _⟩ => ⟨S128x128, .f32⟩
  | .hbm, ⟨18, _⟩ => ⟨S128x128, .f32⟩
  | .hbm, ⟨19, _⟩ => ⟨S128x128, .f32⟩
  | .hbm, ⟨20, _⟩ => ⟨S128x256, .f32⟩
  | .hbm, ⟨21, _⟩ => ⟨S128x256, .bf16⟩
  | .hbm, ⟨22, _⟩ => ⟨S8192x2048, .f32⟩
  | .hbm, ⟨23, _⟩ => ⟨S8192x2048, .bf16⟩
  | .hbm, ⟨24, _⟩ => ⟨S9248x2048, .f32⟩
  | .hbm, ⟨25, _⟩ => ⟨S9248x2048, .bf16⟩
  | .hbm, ⟨26, _⟩ => ⟨S8192x9216, .f32⟩
  | .hbm, ⟨27, _⟩ => ⟨S2x2048x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S128x256, .bf16⟩
  | .local _ .vmem, ⟨5, _⟩ => ⟨S1024x1024, .f32⟩
  | .local _ .vmem, ⟨6, _⟩ => ⟨S1024x1024, .f32⟩
  | .local _ .vmem, ⟨7, _⟩ => ⟨S2x1024x1024, .bf16⟩
  | .local _ .vmem, ⟨8, _⟩ => ⟨S2x1024x1024, .bf16⟩
  | .local _ .smem, ⟨0, _⟩ => ⟨S9, .i32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_c_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20_0 : Ref sig .tc := ⟨.hbm, 26, rfl⟩
abbrev main_v20_1 : Ref sig .tc := ⟨.hbm, 27, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 9], ![false, false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_mult1 (pf : pre0.Contents (Elt F)) (i : grid0.Coords) : BitVec 32 :=
  let arg1 : BitVec 32 := BitVec.ofNat 32 (i 1).val
  let v0 : Index := Scalar.indexCast arg1
  let v1 : BitVec 32 := pf.atD 0 ![v0.toNat]
  v1

def k0_cond1 (i : grid0.Coords) : BitVec 1 :=
  let arg1 : BitVec 32 := BitVec.ofNat 32 (i 1).val
  let c8_i32 : BitVec 32 := 8#32
  let v6 : BitVec 1 := Scalar.cmpi .eq arg1 c8_i32
  let v7 : BitVec 32 := Scalar.extui v6
  let c0_i32 : BitVec 32 := 0#32
  let v8 : BitVec 1 := Scalar.cmpi .ne v7 c0_i32
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S9.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S9) ![v0.toNat] S1.size (k0_off1_inb i)) numel1_S1
  let v2 : BitVec 32 := v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let v10 : BitVec 32 := Scalar.divsi arg0 c2_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c2_i32_3 c0_i32_6
  let v17 : BitVec 32 := Scalar.extui v16
  let c0_i32_7 : BitVec 32 := 0#32
  let v18 : BitVec 1 := Scalar.cmpi .slt c2_i32_3 c0_i32_7
  let v19 : BitVec 32 := Scalar.extui v18
  let v20 : BitVec 32 := Scalar.subi v17 v19
  let v21 : BitVec 1 := Scalar.cmpi .ne v15 v20
  let v22 : BitVec 32 := Scalar.remsi arg0 c2_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  let c0_i32_11 : BitVec 32 := 0#32
  ![c0_i32_10.toNat, v9.toNat, v26.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== InProjRefIdeal.lean ====
abbrev S4x2048x2048 : Shape := ⟨3, ![4, 2048, 2048]⟩
abbrev S2048x9248 : Shape := ⟨2, ![2048, 9248]⟩
abbrev S4x2048x9248 : Shape := ⟨3, ![4, 2048, 9248]⟩
abbrev S4x2048x1024 : Shape := ⟨3, ![4, 2048, 1024]⟩
abbrev S4x2048x8x128 : Shape := ⟨4, ![4, 2048, 8, 128]⟩
abbrev S128x128 : Shape := ⟨2, ![128, 128]⟩
abbrev S_ : Shape := ⟨0, ![]⟩
abbrev S128x4x2048x8 : Shape := ⟨4, ![128, 4, 2048, 8]⟩
abbrev S2048x4x8x128 : Shape := ⟨4, ![2048, 4, 8, 128]⟩
abbrev S2048x4096 : Shape := ⟨2, ![2048, 4096]⟩
abbrev S4x2048x4096 : Shape := ⟨3, ![4, 2048, 4096]⟩
abbrev S4x2048x5120 : Shape := ⟨3, ![4, 2048, 5120]⟩
abbrev S4x2048x9216 : Shape := ⟨3, ![4, 2048, 9216]⟩
abbrev S8192x9216 : Shape := ⟨2, ![8192, 9216]⟩
abbrev S1x2048x4096 : Shape := ⟨3, ![1, 2048, 4096]⟩
abbrev S2x2048x4096 : Shape := ⟨3, ![2, 2048, 4096]⟩

abbrev nBuf : Space → Nat
  | .hbm => 34
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2048x9248, .f32⟩
  | .hbm, ⟨2, _⟩ => ⟨S4x2048x9248, .f32⟩
  | .hbm, ⟨3, _⟩ => ⟨S4x2048x1024, .f32⟩
  | .hbm, ⟨4, _⟩ => ⟨S4x2048x8x128, .f32⟩
  | .hbm, ⟨5, _⟩ => ⟨S128x128, .i32⟩
  | .hbm, ⟨6, _⟩ => ⟨S128x128, .i32⟩
  | .hbm, ⟨7, _⟩ => ⟨S128x128, .i32⟩
  | .hbm, ⟨8, _⟩ => ⟨S128x128, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S128x128, .f32⟩
  | .hbm, ⟨16, _⟩ => ⟨S128x128, .f32⟩
  | .hbm, ⟨17, _⟩ => ⟨S128x128, .f32⟩
  | .hbm, ⟨18, _⟩ => ⟨S128x4x2048x8, .f32⟩
  | .hbm, ⟨19, _⟩ => ⟨S2048x4x8x128, .f32⟩
  | .hbm, ⟨20, _⟩ => ⟨S2048x4096, .f32⟩
  | .hbm, ⟨21, _⟩ => ⟨S128x128, .f32⟩
  | .hbm, ⟨22, _⟩ => ⟨S128x128, .f32⟩
  | .hbm, ⟨23, _⟩ => ⟨S128x4x2048x8, .f32⟩
  | .hbm, ⟨24, _⟩ => ⟨S2048x4x8x128, .f32⟩
  | .hbm, ⟨25, _⟩ => ⟨S2048x4096, .f32⟩
  | .hbm, ⟨26, _⟩ => ⟨S4x2048x4096, .f32⟩
  | .hbm, ⟨27, _⟩ => ⟨S4x2048x5120, .f32⟩
  | .hbm, ⟨28, _⟩ => ⟨S4x2048x9216, .f32⟩
  | .hbm, ⟨29, _⟩ => ⟨S8192x9216, .f32⟩
  | .hbm, ⟨30, _⟩ => ⟨S1x2048x4096, .f32⟩
  | .hbm, ⟨31, _⟩ => ⟨S1x2048x4096, .f32⟩
  | .hbm, ⟨32, _⟩ => ⟨S2x2048x4096, .f32⟩
  | .hbm, ⟨33, _⟩ => ⟨S2x2048x4096, .bf16⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩

abbrev nD : Nat := 1
abbrev τ : Topo := Topo.v7x

variable {F : FTy → Type} [FloatOps F]
-- ==== Delta.lean ====
abbrev S4x2048x9248 : Shape := ⟨3, ![4, 2048, 9248]⟩
abbrev S5x3072 : Shape := ⟨2, ![5, 3072]⟩
abbrev S8 : Shape := ⟨1, ![8]⟩
abbrev S128 : Shape := ⟨1, ![128]⟩
abbrev S1024x2048 : Shape := ⟨2, ![1024, 2048]⟩
abbrev S2048x2048 : Shape := ⟨2, ![2048, 2048]⟩
abbrev S2048x8192 : Shape := ⟨2, ![2048, 8192]⟩
abbrev S8192x2048 : Shape := ⟨2, ![8192, 2048]⟩
abbrev S4x2048x32 : Shape := ⟨3, ![4, 2048, 32]⟩
abbrev S4x2048x8 : Shape := ⟨3, ![4, 2048, 8]⟩
abbrev S1x1x8 : Shape := ⟨3, ![1, 1, 8]⟩
abbrev S_ : Shape := ⟨0, ![]⟩
abbrev S4x32x64x8 : Shape := ⟨4, ![4, 32, 64, 8]⟩
abbrev S4x2048x96 : Shape := ⟨3, ![4, 2048, 96]⟩
abbrev S4x2048x128 : Shape := ⟨3, ![4, 2048, 128]⟩
abbrev S4x2048x4096 : Shape := ⟨3, ![4, 2048, 4096]⟩
abbrev S4x2048x5120 : Shape := ⟨3, ![4, 2048, 5120]⟩
abbrev S4x2048x9216 : Shape := ⟨3, ![4, 2048, 9216]⟩
abbrev S8192x128 : Shape := ⟨2, ![8192, 128]⟩
abbrev S128x8192 : Shape := ⟨2, ![128, 8192]⟩
abbrev S1x128 : Shape := ⟨2, ![1, 128]⟩
abbrev S4x2048x1024 : Shape := ⟨3, ![4, 2048, 1024]⟩
abbrev S1x2048x128 : Shape := ⟨3, ![1, 2048, 128]⟩
abbrev S128x2048 : Shape := ⟨2, ![128, 2048]⟩
abbrev S5x128 : Shape := ⟨2, ![5, 128]⟩
abbrev S32x2048 : Shape := ⟨2, ![32, 2048]⟩
abbrev S64x2048 : Shape := ⟨2, ![64, 2048]⟩
abbrev S64x8192 : Shape := ⟨2, ![64, 8192]⟩
abbrev S256x2048 : Shape := ⟨2, ![256, 2048]⟩
abbrev S2x3x272x128 : Shape := ⟨4, ![2, 3, 272, 128]⟩
abbrev S3x2048x128 : Shape := ⟨3, ![3, 2048, 128]⟩
abbrev S2x2048x128 : Shape := ⟨3, ![2, 2048, 128]⟩
abbrev S2x1024x128 : Shape := ⟨3, ![2, 1024, 128]⟩
abbrev S2x128x128 : Shape := ⟨3, ![2, 128, 128]⟩
abbrev S8x128 : Shape := ⟨2, ![8, 128]⟩
abbrev S1x1x8x128 : Shape := ⟨4, ![1, 1, 8, 128]⟩
abbrev S1x264x128 : Shape := ⟨3, ![1, 264, 128]⟩
abbrev S264x128 : Shape := ⟨2, ![264, 128]⟩
abbrev S1x1x264x128 : Shape := ⟨4, ![1, 1, 264, 128]⟩
abbrev S1x1x256x128 : Shape := ⟨4, ![1, 1, 256, 128]⟩
abbrev S256x128 : Shape := ⟨2, ![256, 128]⟩
abbrev S256 : Shape := ⟨1, ![256]⟩
abbrev S256x1 : Shape := ⟨2, ![256, 1]⟩
abbrev S1x256x128 : Shape := ⟨3, ![1, 256, 128]⟩
abbrev S64x128 : Shape := ⟨2, ![64, 128]⟩
abbrev S128x128 : Shape := ⟨2, ![128, 128]⟩
abbrev S1x64x128 : Shape := ⟨3, ![1, 64, 128]⟩
abbrev S64 : Shape := ⟨1, ![64]⟩
abbrev S64x1 : Shape := ⟨2, ![64, 1]⟩
abbrev S1x1 : Shape := ⟨2, ![1, 1]⟩
abbrev S64x64 : Shape := ⟨2, ![64, 64]⟩
abbrev S64x256 : Shape := ⟨2, ![64, 256]⟩
abbrev S128x64 : Shape := ⟨2, ![128, 64]⟩
abbrev S128x256 : Shape := ⟨2, ![128, 256]⟩
abbrev S1x128x128 : Shape := ⟨3, ![1, 128, 128]⟩
abbrev S1x8x128 : Shape := ⟨3, ![1, 8, 128]⟩
abbrev S1x1x128 : Shape := ⟨3, ![1, 1, 128]⟩

abbrev nBuf : Space → Nat
  | .hbm => 90
  | .vmem => 54
  | .smem => 0
  | _ => 0

abbrev bufTy : (tb : Table) → Fin (tcTables nBuf tb) → BufTy
  | .hbm, ⟨0, _⟩ => ⟨S4x2048x9248, .f32⟩
  | .hbm, ⟨1, _⟩ => ⟨S5x3072, .f32⟩
  | .hbm, ⟨2, _⟩ => ⟨S8, .f32⟩
  | .hbm, ⟨3, _⟩ => ⟨S8, .f32⟩
  | .hbm, ⟨4, _⟩ => ⟨S8, .f32⟩
  | .hbm, ⟨5, _⟩ => ⟨S8, .f32⟩
  | .hbm, ⟨6, _⟩ => ⟨S128, .f32⟩
  | .hbm, ⟨7, _⟩ => ⟨S1024x2048, .f32⟩
  | .hbm, ⟨8, _⟩ => ⟨S1024x2048, .f32⟩
  | .hbm, ⟨9, _⟩ => ⟨S2048x2048, .f32⟩
  | .hbm, ⟨10, _⟩ => ⟨S2048x8192, .f32⟩
  | .hbm, ⟨11, _⟩ => ⟨S8192x2048, .f32⟩
  | .hbm, ⟨12, _⟩ => ⟨S4x2048x32, .f32⟩
  | .hbm, ⟨13, _⟩ => ⟨S4x2048x8, .f32⟩
  | .hbm, ⟨14, _⟩ => ⟨S4x2048x8, .f32⟩
  | .hbm, ⟨15, _⟩ => ⟨S4x2048x8, .f32⟩
  | .hbm, ⟨16, _⟩ => ⟨S4x2048x8, .f32⟩
  | .hbm, ⟨17, _⟩ => ⟨S8, .f32⟩
  | .hbm, ⟨18, _⟩ => ⟨S8, .f32⟩
  | .hbm, ⟨19, _⟩ => ⟨S1x1x8, .f32⟩
  | .hbm, ⟨20, _⟩ => ⟨S4x2048x8, .f32⟩
  | .hbm, ⟨21, _⟩ => ⟨S4x2048x8, .f32⟩
  | .hbm, ⟨22, _⟩ => ⟨S_, .f32⟩
  | .hbm, ⟨23, _⟩ => ⟨S4x2048x8, .f32⟩
  | .hbm, ⟨24, _⟩ => ⟨S4x2048x8, .f32⟩
  | .hbm, ⟨25, _⟩ => ⟨S4x2048x8, .f32⟩
  | .hbm, ⟨26, _⟩ => ⟨S4x2048x8, .f32⟩
  | .hbm, ⟨27, _⟩ => ⟨S4x2048x8, .f32⟩
  | .hbm, ⟨28, _⟩ => ⟨S4x2048x8, .f32⟩
  | .hbm, ⟨29, _⟩ => ⟨S4x2048x8, .f32⟩
  | .hbm, ⟨30, _⟩ => ⟨S1x1x8, .f32⟩
  | .hbm, ⟨31, _⟩ => ⟨S4x2048x8, .f32⟩
  | .hbm, ⟨32, _⟩ => ⟨S4x2048x8, .f32⟩
  | .hbm, ⟨33, _⟩ => ⟨S8, .f32⟩
  | .hbm, ⟨34, _⟩ => ⟨S8, .f32⟩
  | .hbm, ⟨35, _⟩ => ⟨S1x1x8, .f32⟩
  | .hbm, ⟨36, _⟩ => ⟨S4x2048x8, .f32⟩
  | .hbm, ⟨37, _⟩ => ⟨S4x2048x8, .f32⟩
  | .hbm, ⟨38, _⟩ => ⟨S_, .f32⟩
  | .hbm, ⟨39, _⟩ => ⟨S4x2048x8, .f32⟩
  | .hbm, ⟨40, _⟩ => ⟨S4x2048x8, .f32⟩
  | .hbm, ⟨41, _⟩ => ⟨S4x2048x8, .f32⟩
  | .hbm, ⟨42, _⟩ => ⟨S4x2048x8, .f32⟩
  | .hbm, ⟨43, _⟩ => ⟨S4x2048x8, .f32⟩
  | .hbm, ⟨44, _⟩ => ⟨S4x2048x8, .f32⟩
  | .hbm, ⟨45, _⟩ => ⟨S4x2048x8, .f32⟩
  | .hbm, ⟨46, _⟩ => ⟨S1x1x8, .f32⟩
  | .hbm, ⟨47, _⟩ => ⟨S4x2048x8, .f32⟩
  | .hbm, ⟨48, _⟩ => ⟨S4x2048x8, .f32⟩
  | .hbm, ⟨49, _⟩ => ⟨S4x32x64x8, .f32⟩
  | .hbm, ⟨50, _⟩ => ⟨S_, .f32⟩
  | .hbm, ⟨51, _⟩ => ⟨S_, .f32⟩
  | .hbm, ⟨52, _⟩ => ⟨S4x32x64x8, .f32⟩
  | .hbm, ⟨53, _⟩ => ⟨S4x32x64x8, .f32⟩
  | .hbm, ⟨54, _⟩ => ⟨S_, .f32⟩
  | .hbm, ⟨55, _⟩ => ⟨S_, .f32⟩
  | .hbm, ⟨56, _⟩ => ⟨S4x32x64x8, .f32⟩
  | .hbm, ⟨57, _⟩ => ⟨S4x2048x8, .f32⟩
  | .hbm, ⟨58, _⟩ => ⟨S4x2048x8, .f32⟩
  | .hbm, ⟨59, _⟩ => ⟨S_, .f32⟩
  | .hbm, ⟨60, _⟩ => ⟨S4x2048x8, .f32⟩
  | .hbm, ⟨61, _⟩ => ⟨S4x2048x8, .f32⟩
  | .hbm, ⟨62, _⟩ => ⟨S_, .f32⟩
  | .hbm, ⟨63, _⟩ => ⟨S4x2048x8, .f32⟩
  | .hbm, ⟨64, _⟩ => ⟨S4x2048x8, .f32⟩
  | .hbm, ⟨65, _⟩ => ⟨S4x2048x8, .f32⟩
  | .hbm, ⟨66, _⟩ => ⟨S4x2048x8, .f32⟩
  | .hbm, ⟨67, _⟩ => ⟨S_, .f32⟩
  | .hbm, ⟨68, _⟩ => ⟨S4x2048x8, .f32⟩
  | .hbm, ⟨69, _⟩ => ⟨S4x2048x8, .f32⟩
  | .hbm, ⟨70, _⟩ => ⟨S_, .f32⟩
  | .hbm, ⟨71, _⟩ => ⟨S4x2048x8, .f32⟩
  | .hbm, ⟨72, _⟩ => ⟨S4x2048x8, .f32⟩
  | .hbm, ⟨73, _⟩ => ⟨S4x2048x8, .f32⟩
  | .hbm, ⟨74, _⟩ => ⟨S4x2048x8, .f32⟩
  | .hbm, ⟨75, _⟩ => ⟨S_, .f32⟩
  | .hbm, ⟨76, _⟩ => ⟨S4x2048x96, .f32⟩
  | .hbm, ⟨77, _⟩ => ⟨S4x2048x128, .f32⟩
  | .hbm, ⟨78, _⟩ => ⟨S4x2048x4096, .f32⟩
  | .hbm, ⟨79, _⟩ => ⟨S4x2048x5120, .f32⟩
  | .hbm, ⟨80, _⟩ => ⟨S4x2048x9216, .f32⟩
  | .hbm, ⟨81, _⟩ => ⟨S8192x128, .f32⟩
  | .hbm, ⟨82, _⟩ => ⟨S128x8192, .f32⟩
  | .hbm, ⟨83, _⟩ => ⟨S1x128, .f32⟩
  | .hbm, ⟨84, _⟩ => ⟨S4x2048x1024, .bf16⟩
  | .hbm, ⟨85, _⟩ => ⟨S1024x2048, .bf16⟩
  | .hbm, ⟨86, _⟩ => ⟨S1024x2048, .bf16⟩
  | .hbm, ⟨87, _⟩ => ⟨S2048x2048, .bf16⟩
  | .hbm, ⟨88, _⟩ => ⟨S2048x8192, .bf16⟩
  | .hbm, ⟨89, _⟩ => ⟨S8192x2048, .bf16⟩
  | .local _ .vmem, ⟨0, _⟩ => ⟨S1x2048x128, .f32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x2048x128, .f32⟩
  | .local _ .vmem, ⟨7, _⟩ => ⟨S1x2048x128, .f32⟩
  | .local _ .vmem, ⟨8, _⟩ => ⟨S1x2048x128, .f32⟩
  | .local _ .vmem, ⟨9, _⟩ => ⟨S1x2048x128, .f32⟩
  | .local _ .vmem, ⟨10, _⟩ => ⟨S128x2048, .f32⟩
  | .local _ .vmem, ⟨11, _⟩ => ⟨S128x2048, .f32⟩
  | .local _ .vmem, ⟨12, _⟩ => ⟨S5x128, .f32⟩
  | .local _ .vmem, ⟨13, _⟩ => ⟨S5x128, .f32⟩
  | .local _ .vmem, ⟨14, _⟩ => ⟨S5x128, .f32⟩
  | .local _ .vmem, ⟨15, _⟩ => ⟨S5x128, .f32⟩
  | .local _ .vmem, ⟨16, _⟩ => ⟨S5x128, .f32⟩
  | .local _ .vmem, ⟨17, _⟩ => ⟨S5x128, .f32⟩
  | .local _ .vmem, ⟨18, _⟩ => ⟨S1x128, .f32⟩
  | .local _ .vmem, ⟨19, _⟩ => ⟨S32x2048, .f32⟩
  | .local _ .vmem, ⟨20, _⟩ => ⟨S32x2048, .f32⟩
  | .local _ .vmem, ⟨21, _⟩ => ⟨S32x2048, .f32⟩
  | .local _ .vmem, ⟨22, _⟩ => ⟨S32x2048, .f32⟩
  | .local _ .vmem, ⟨23, _⟩ => ⟨S64x2048, .f32⟩
  | .local _ .vmem, ⟨24, _⟩ => ⟨S64x2048, .f32⟩
  | .local _ .vmem, ⟨25, _⟩ => ⟨S64x8192, .f32⟩
  | .local _ .vmem, ⟨26, _⟩ => ⟨S64x8192, .f32⟩
  | .local _ .vmem, ⟨27, _⟩ => ⟨S256x2048, .f32⟩
  | .local _ .vmem, ⟨28, _⟩ => ⟨S256x2048, .f32⟩
  | .local _ .vmem, ⟨29, _⟩ => ⟨S1x2048x128, .bf16⟩
  | .local _ .vmem, ⟨30, _⟩ => ⟨S1x2048x128, .bf16⟩
  | .local _ .vmem, ⟨31, _⟩ => ⟨S32x2048, .bf16⟩
  | .local _ .vmem, ⟨32, _⟩ => ⟨S32x2048, .bf16⟩
  | .local _ .vmem, ⟨33, _⟩ => ⟨S32x2048, .bf16⟩
  | .local _ .vmem, ⟨34, _⟩ => ⟨S32x2048, .bf16⟩
  | .local _ .vmem, ⟨35, _⟩ => ⟨S64x2048, .bf16⟩
  | .local _ .vmem, ⟨36, _⟩ => ⟨S64x2048, .bf16⟩
  | .local _ .vmem, ⟨37, _⟩ => ⟨S64x8192, .bf16⟩
  | .local _ .vmem, ⟨38, _⟩ => ⟨S64x8192, .bf16⟩
  | .local _ .vmem, ⟨39, _⟩ => ⟨S256x2048, .bf16⟩
  | .local _ .vmem, ⟨40, _⟩ => ⟨S256x2048, .bf16⟩
  | .local _ .vmem, ⟨41, _⟩ => ⟨S2x3x272x128, .f32⟩
  | .local _ .vmem, ⟨42, _⟩ => ⟨S3x2048x128, .f32⟩
  | .local _ .vmem, ⟨43, _⟩ => ⟨S2x2048x128, .f32⟩
  | .local _ .vmem, ⟨44, _⟩ => ⟨S2x2048x128, .bf16⟩
  | .local _ .vmem, ⟨45, _⟩ => ⟨S2x2048x128, .f32⟩
  | .local _ .vmem, ⟨46, _⟩ => ⟨S2x1024x128, .bf16⟩
  | .local _ .vmem, ⟨47, _⟩ => ⟨S2x1024x128, .f32⟩
  | .local _ .vmem, ⟨48, _⟩ => ⟨S2x128x128, .f32⟩
  | .local _ .vmem, ⟨49, _⟩ => ⟨S2x2048x128, .bf16⟩
  | .local _ .vmem, ⟨50, _⟩ => ⟨S2x2048x128, .f32⟩
  | .local _ .vmem, ⟨51, _⟩ => ⟨S2x1024x128, .bf16⟩
  | .local _ .vmem, ⟨52, _⟩ => ⟨S2x1024x128, .f32⟩
  | .local _ .vmem, ⟨53, _⟩ => ⟨S2x128x128, .f32⟩
  | _, _ => ⟨S4x2048x9248, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_0 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_call0_cst : Ref sig .tc := ⟨.hbm, 50, rfl⟩
abbrev main_call0_v0 : Ref sig .tc := ⟨.hbm, 51, rfl⟩
abbrev main_v36 : Ref sig .tc := ⟨.hbm, 52, rfl⟩
abbrev main_v37 : Ref sig .tc := ⟨.hbm, 53, rfl⟩
abbrev main_call1_cst : Ref sig .tc := ⟨.hbm, 54, rfl⟩
abbrev main_call1_v0 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_1 : Ref sig .tc := ⟨.hbm, 59, rfl⟩
abbrev main_v41 : Ref sig .tc := ⟨.hbm, 60, rfl⟩
abbrev main_v42 : Ref sig .tc := ⟨.hbm, 61, rfl⟩
abbrev main_cst_2 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_3 : Ref sig .tc := ⟨.hbm, 67, rfl⟩
abbrev main_v47 : Ref sig .tc := ⟨.hbm, 68, rfl⟩
abbrev main_v48 : Ref sig .tc := ⟨.hbm, 69, rfl⟩
abbrev main_cst_4 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_5 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61_0 : Ref sig .tc := ⟨.hbm, 84, rfl⟩
abbrev main_v61_1 : Ref sig .tc := ⟨.hbm, 85, rfl⟩
abbrev main_v61_2 : Ref sig .tc := ⟨.hbm, 86, rfl⟩
abbrev main_v61_3 : Ref sig .tc := ⟨.hbm, 87, rfl⟩
abbrev main_v61_4 : Ref sig .tc := ⟨.hbm, 88, rfl⟩
abbrev main_v61_5 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_stg16_0 : Ref sig .tc := ⟨.vmem, 31, rfl⟩
abbrev cc0_stg16_1 : Ref sig .tc := ⟨.vmem, 32, rfl⟩
abbrev cc0_stg17_0 : Ref sig .tc := ⟨.vmem, 33, rfl⟩
abbrev cc0_stg17_1 : Ref sig .tc := ⟨.vmem, 34, rfl⟩
abbrev cc0_stg18_0 : Ref sig .tc := ⟨.vmem, 35, rfl⟩
abbrev cc0_stg18_1 : Ref sig .tc := ⟨.vmem, 36, rfl⟩
abbrev cc0_stg19_0 : Ref sig .tc := ⟨.vmem, 37, rfl⟩
abbrev cc0_stg19_1 : Ref sig .tc := ⟨.vmem, 38, rfl⟩
abbrev cc0_stg20_0 : Ref sig .tc := ⟨.vmem, 39, rfl⟩
abbrev cc0_stg20_1 : Ref sig .tc := ⟨.vmem, 40, rfl⟩
abbrev cc0_scratch0 : Ref sig .tc := ⟨.vmem, 41, rfl⟩
abbrev cc0_scratch1 : Ref sig .tc := ⟨.vmem, 42, rfl⟩
abbrev cc0_scratch2 : Ref sig .tc := ⟨.vmem, 43, rfl⟩
abbrev cc0_scratch3 : Ref sig .tc := ⟨.vmem, 44, rfl⟩
abbrev cc0_scratch4 : Ref sig .tc := ⟨.vmem, 45, rfl⟩
abbrev cc0_scratch5 : Ref sig .tc := ⟨.vmem, 46, rfl⟩
abbrev cc0_scratch6 : Ref sig .tc := ⟨.vmem, 47, rfl⟩
abbrev cc0_scratch7 : Ref sig .tc := ⟨.vmem, 48, rfl⟩
abbrev cc0_scratch8 : Ref sig .tc := ⟨.vmem, 49, rfl⟩
abbrev cc0_scratch9 : Ref sig .tc := ⟨.vmem, 50, rfl⟩
abbrev cc0_scratch10 : Ref sig .tc := ⟨.vmem, 51, rfl⟩
abbrev cc0_scratch11 : Ref sig .tc := ⟨.vmem, 52, rfl⟩
abbrev cc0_scratch12 : Ref sig .tc := ⟨.vmem, 53, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32
abbrev cc0_sem17_0 : DmaSem sig := 33
abbrev cc0_sem17_1 : DmaSem sig := 34
abbrev cc0_sem18_0 : DmaSem sig := 35
abbrev cc0_sem18_1 : DmaSem sig := 36
abbrev cc0_sem19_0 : DmaSem sig := 37
abbrev cc0_sem19_1 : DmaSem sig := 38
abbrev cc0_sem20_0 : DmaSem sig := 39
abbrev cc0_sem20_1 : DmaSem sig := 40

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  let c0_i32_0 : BitVec 32 := 0#32
  ![arg0.toNat, c0_i32.toNat, v0.toNat]

def cc0_transform_1 (i : grid0.Coords) : Fin 3 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c48_i32 : BitVec 32 := 48#32
  let v0 : BitVec 32 := Scalar.addi c48_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c56_i32 : BitVec 32 := 56#32
  let v0 : BitVec 32 := Scalar.addi c56_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![c0_i32.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_16 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_17 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_18 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_19 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_20 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S5x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S5x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S5x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S32x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S32x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S64x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S64x8192 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S256x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x2048x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S32x2048 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S32x2048 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S64x2048 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S64x8192 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S256x2048 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]
-- ==== DeltaRefIdeal.lean ====
abbrev S4x2048x9248 : Shape := ⟨3, ![4, 2048, 9248]⟩
abbrev S5x3072 : Shape := ⟨2, ![5, 3072]⟩
abbrev S8 : Shape := ⟨1, ![8]⟩
abbrev S128 : Shape := ⟨1, ![128]⟩
abbrev S1024x2048 : Shape := ⟨2, ![1024, 2048]⟩
abbrev S2048x2048 : Shape := ⟨2, ![2048, 2048]⟩
abbrev S2048x8192 : Shape := ⟨2, ![2048, 8192]⟩
abbrev S8192x2048 : Shape := ⟨2, ![8192, 2048]⟩
abbrev S4x2048x3072 : Shape := ⟨3, ![4, 2048, 3072]⟩
abbrev S4x2048x1024 : Shape := ⟨3, ![4, 2048, 1024]⟩
abbrev S4x2048x32 : Shape := ⟨3, ![4, 2048, 32]⟩
abbrev S_ : Shape := ⟨0, ![]⟩
abbrev S4x2052x3072 : Shape := ⟨3, ![4, 2052, 3072]⟩
abbrev S1x3072 : Shape := ⟨2, ![1, 3072]⟩
abbrev S3072 : Shape := ⟨1, ![3072]⟩
abbrev S1x1x3072 : Shape := ⟨3, ![1, 1, 3072]⟩
abbrev S4x2048x8x128 : Shape := ⟨4, ![4, 2048, 8, 128]⟩
abbrev S2048x4x8x128 : Shape := ⟨4, ![2048, 4, 8, 128]⟩
abbrev S2048x4x8 : Shape := ⟨3, ![2048, 4, 8]⟩
abbrev S2048x4x8x1 : Shape := ⟨4, ![2048, 4, 8, 1]⟩
abbrev S2048x4x32 : Shape := ⟨3, ![2048, 4, 32]⟩
abbrev S1x1x8 : Shape := ⟨3, ![1, 1, 8]⟩
abbrev S2048x1x4x8x128 : Shape := ⟨5, ![2048, 1, 4, 8, 128]⟩
abbrev S2048x2x4x8x128 : Shape := ⟨5, ![2048, 2, 4, 8, 128]⟩
abbrev S2048x64x128 : Shape := ⟨3, ![2048, 64, 128]⟩
abbrev S2048x1x4x8 : Shape := ⟨4, ![2048, 1, 4, 8]⟩
abbrev S2048x2x4x8 : Shape := ⟨4, ![2048, 2, 4, 8]⟩
abbrev S2048x64 : Shape := ⟨2, ![2048, 64]⟩
abbrev S64x128x128 : Shape := ⟨3, ![64, 128, 128]⟩
abbrev S1x64x128 : Shape := ⟨3, ![1, 64, 128]⟩
abbrev S64x128 : Shape := ⟨2, ![64, 128]⟩
abbrev S1x64 : Shape := ⟨2, ![1, 64]⟩
abbrev S64 : Shape := ⟨1, ![64]⟩
abbrev S64x1x1 : Shape := ⟨3, ![64, 1, 1]⟩
abbrev S64x1 : Shape := ⟨2, ![64, 1]⟩
abbrev S64x128x1 : Shape := ⟨3, ![64, 128, 1]⟩
abbrev S64x1x128 : Shape := ⟨3, ![64, 1, 128]⟩
abbrev S4x2048x8 : Shape := ⟨3, ![4, 2048, 8]⟩
abbrev S4x2048x8x1 : Shape := ⟨4, ![4, 2048, 8, 1]⟩
abbrev S1x1x1x128 : Shape := ⟨4, ![1, 1, 1, 128]⟩

abbrev nBuf : Space → Nat
  | .hbm => 283
  | .vmem => 0
  | .smem => 0
  | _ => 0

abbrev hbmTy0_0 (i : Nat) : BufTy := match i % 128 with
  | 0 => ⟨S4x2048x9248, .f32⟩
  | 1 => ⟨S5x3072, .f32⟩
  | 2 => ⟨S8, .f32⟩
  | 3 => ⟨S8, .f32⟩
  | 4 => ⟨S8, .f32⟩
  | 5 => ⟨S8, .f32⟩
  | 6 => ⟨S128, .f32⟩
  | 7 => ⟨S1024x2048, .f32⟩
  | 8 => ⟨S1024x2048, .f32⟩
  | 9 => ⟨S2048x2048, .f32⟩
  | 10 => ⟨S2048x8192, .f32⟩
  | 11 => ⟨S8192x2048, .f32⟩
  | 12 => ⟨S4x2048x3072, .f32⟩
  | 13 => ⟨S4x2048x1024, .f32⟩
  | 14 => ⟨S4x2048x32, .f32⟩
  | 15 => ⟨S_, .i32⟩
  | 16 => ⟨S_, .f32⟩
  | 17 => ⟨S4x2052x3072, .f32⟩
  | 18 => ⟨S4x2048x3072, .f32⟩
  | 19 => ⟨S1x3072, .f32⟩
  | 20 => ⟨S3072, .f32⟩
  | 21 => ⟨S1x1x3072, .f32⟩
  | 22 => ⟨S4x2048x3072, .f32⟩
  | 23 => ⟨S4x2048x3072, .f32⟩
  | 24 => ⟨S_, .f32⟩
  | 25 => ⟨S4x2048x3072, .f32⟩
  | 26 => ⟨S4x2048x3072, .f32⟩
  | 27 => ⟨S4x2048x3072, .f32⟩
  | 28 => ⟨S1x3072, .f32⟩
  | 29 => ⟨S3072, .f32⟩
  | 30 => ⟨S1x1x3072, .f32⟩
  | 31 => ⟨S4x2048x3072, .f32⟩
  | 32 => ⟨S4x2048x3072, .f32⟩
  | 33 => ⟨S4x2048x3072, .f32⟩
  | 34 => ⟨S4x2048x3072, .f32⟩
  | 35 => ⟨S1x3072, .f32⟩
  | 36 => ⟨S3072, .f32⟩
  | 37 => ⟨S1x1x3072, .f32⟩
  | 38 => ⟨S4x2048x3072, .f32⟩
  | 39 => ⟨S4x2048x3072, .f32⟩
  | 40 => ⟨S4x2048x3072, .f32⟩
  | 41 => ⟨S4x2048x3072, .f32⟩
  | 42 => ⟨S1x3072, .f32⟩
  | 43 => ⟨S3072, .f32⟩
  | 44 => ⟨S1x1x3072, .f32⟩
  | 45 => ⟨S4x2048x3072, .f32⟩
  | 46 => ⟨S4x2048x3072, .f32⟩
  | 47 => ⟨S4x2048x3072, .f32⟩
  | 48 => ⟨S4x2048x3072, .f32⟩
  | 49 => ⟨S1x3072, .f32⟩
  | 50 => ⟨S3072, .f32⟩
  | 51 => ⟨S1x1x3072, .f32⟩
  | 52 => ⟨S4x2048x3072, .f32⟩
  | 53 => ⟨S4x2048x3072, .f32⟩
  | 54 => ⟨S4x2048x3072, .f32⟩
  | 55 => ⟨S4x2048x3072, .f32⟩
  | 56 => ⟨S4x2048x3072, .f32⟩
  | 57 => ⟨S_, .f32⟩
  | 58 => ⟨S4x2048x3072, .f32⟩
  | 59 => ⟨S4x2048x3072, .f32⟩
  | 60 => ⟨S_, .f32⟩
  | 61 => ⟨S4x2048x3072, .f32⟩
  | 62 => ⟨S4x2048x3072, .f32⟩
  | 63 => ⟨S4x2048x3072, .f32⟩
  | 64 => ⟨S4x2048x1024, .f32⟩
  | 65 => ⟨S4x2048x1024, .f32⟩
  | 66 => ⟨S4x2048x1024, .f32⟩
  | 67 => ⟨S4x2048x8x128, .f32⟩
  | 68 => ⟨S2048x4x8x128, .f32⟩
  | 69 => ⟨S4x2048x8x128, .f32⟩
  | 70 => ⟨S2048x4x8x128, .f32⟩
  | 71 => ⟨S4x2048x8x128, .f32⟩
  | 72 => ⟨S2048x4x8x128, .f32⟩
  | 73 => ⟨S2048x4x8x128, .f32⟩
  | 74 => ⟨S_, .f32⟩
  | 75 => ⟨S2048x4x8, .f32⟩
  | 76 => ⟨S2048x4x8x1, .f32⟩
  | 77 => ⟨S_, .f32⟩
  | 78 => ⟨S2048x4x8x1, .f32⟩
  | 79 => ⟨S2048x4x8x1, .f32⟩
  | 80 => ⟨S2048x4x8x1, .f32⟩
  | 81 => ⟨S2048x4x8x128, .f32⟩
  | 82 => ⟨S2048x4x8x128, .f32⟩
  | 83 => ⟨S_, .f32⟩
  | 84 => ⟨S2048x4x8x128, .f32⟩
  | 85 => ⟨S2048x4x8x128, .f32⟩
  | 86 => ⟨S2048x4x8x128, .f32⟩
  | 87 => ⟨S_, .f32⟩
  | 88 => ⟨S2048x4x8, .f32⟩
  | 89 => ⟨S2048x4x8x1, .f32⟩
  | 90 => ⟨S_, .f32⟩
  | 91 => ⟨S2048x4x8x1, .f32⟩
  | 92 => ⟨S2048x4x8x1, .f32⟩
  | 93 => ⟨S2048x4x8x1, .f32⟩
  | 94 => ⟨S2048x4x8x128, .f32⟩
  | 95 => ⟨S2048x4x8x128, .f32⟩
  | 96 => ⟨S2048x4x32, .f32⟩
  | 97 => ⟨S2048x4x8, .f32⟩
  | 98 => ⟨S2048x4x8, .f32⟩
  | 99 => ⟨S2048x4x8, .f32⟩
  | 100 => ⟨S2048x4x8, .f32⟩
  | 101 => ⟨S8, .f32⟩
  | 102 => ⟨S8, .f32⟩
  | 103 => ⟨S1x1x8, .f32⟩
  | 104 => ⟨S2048x4x8, .f32⟩
  | 105 => ⟨S2048x4x8, .f32⟩
  | 106 => ⟨S_, .f32⟩
  | 107 => ⟨S2048x4x8, .f32⟩
  | 108 => ⟨S2048x4x8, .f32⟩
  | 109 => ⟨S2048x4x8, .f32⟩
  | 110 => ⟨S2048x4x8, .f32⟩
  | 111 => ⟨S2048x4x8, .i1⟩
  | 112 => ⟨S2048x4x8, .f32⟩
  | 113 => ⟨S2048x4x8, .f32⟩
  | 114 => ⟨S2048x4x8, .f32⟩
  | 115 => ⟨S2048x4x8, .f32⟩
  | 116 => ⟨S2048x4x8, .f32⟩
  | 117 => ⟨S2048x4x8, .f32⟩
  | 118 => ⟨S2048x4x8, .f32⟩
  | 119 => ⟨S2048x4x8, .f32⟩
  | 120 => ⟨S1x1x8, .f32⟩
  | 121 => ⟨S2048x4x8, .f32⟩
  | 122 => ⟨S2048x4x8, .f32⟩
  | 123 => ⟨S8, .f32⟩
  | 124 => ⟨S8, .f32⟩
  | 125 => ⟨S1x1x8, .f32⟩
  | 126 => ⟨S2048x4x8, .f32⟩
  | 127 => ⟨S2048x4x8, .f32⟩
  | _ => ⟨S4x2048x9248, .f32⟩

abbrev hbmTy0_1 (i : Nat) : BufTy := match i % 128 with
  | 0 => ⟨S_, .f32⟩
  | 1 => ⟨S2048x4x8, .f32⟩
  | 2 => ⟨S2048x4x8, .f32⟩
  | 3 => ⟨S2048x4x8, .f32⟩
  | 4 => ⟨S2048x4x8, .f32⟩
  | 5 => ⟨S2048x4x8, .i1⟩
  | 6 => ⟨S2048x4x8, .f32⟩
  | 7 => ⟨S2048x4x8, .f32⟩
  | 8 => ⟨S2048x4x8, .f32⟩
  | 9 => ⟨S2048x4x8, .f32⟩
  | 10 => ⟨S2048x4x8, .f32⟩
  | 11 => ⟨S2048x4x8, .f32⟩
  | 12 => ⟨S2048x4x8, .f32⟩
  | 13 => ⟨S2048x4x8, .f32⟩
  | 14 => ⟨S1x1x8, .f32⟩
  | 15 => ⟨S2048x4x8, .f32⟩
  | 16 => ⟨S2048x4x8, .f32⟩
  | 17 => ⟨S2048x4x8x128, .f32⟩
  | 18 => ⟨S2048x1x4x8x128, .f32⟩
  | 19 => ⟨S2048x1x4x8x128, .f32⟩
  | 20 => ⟨S2048x2x4x8x128, .f32⟩
  | 21 => ⟨S2048x64x128, .f32⟩
  | 22 => ⟨S2048x4x8x128, .f32⟩
  | 23 => ⟨S2048x1x4x8x128, .f32⟩
  | 24 => ⟨S2048x1x4x8x128, .f32⟩
  | 25 => ⟨S2048x2x4x8x128, .f32⟩
  | 26 => ⟨S2048x64x128, .f32⟩
  | 27 => ⟨S2048x4x8x128, .f32⟩
  | 28 => ⟨S2048x1x4x8x128, .f32⟩
  | 29 => ⟨S2048x1x4x8x128, .f32⟩
  | 30 => ⟨S2048x2x4x8x128, .f32⟩
  | 31 => ⟨S2048x64x128, .f32⟩
  | 32 => ⟨S2048x4x8, .f32⟩
  | 33 => ⟨S2048x1x4x8, .f32⟩
  | 34 => ⟨S2048x1x4x8, .f32⟩
  | 35 => ⟨S2048x2x4x8, .f32⟩
  | 36 => ⟨S2048x64, .f32⟩
  | 37 => ⟨S2048x4x8, .f32⟩
  | 38 => ⟨S2048x4x8, .f32⟩
  | 39 => ⟨S_, .f32⟩
  | 40 => ⟨S2048x4x8, .f32⟩
  | 41 => ⟨S2048x4x8, .f32⟩
  | 42 => ⟨S_, .f32⟩
  | 43 => ⟨S2048x4x8, .f32⟩
  | 44 => ⟨S2048x4x8, .f32⟩
  | 45 => ⟨S2048x4x8, .f32⟩
  | 46 => ⟨S2048x4x8, .f32⟩
  | 47 => ⟨S_, .f32⟩
  | 48 => ⟨S2048x4x8, .f32⟩
  | 49 => ⟨S2048x4x8, .f32⟩
  | 50 => ⟨S_, .f32⟩
  | 51 => ⟨S2048x4x8, .f32⟩
  | 52 => ⟨S2048x4x8, .f32⟩
  | 53 => ⟨S2048x4x8, .f32⟩
  | 54 => ⟨S2048x1x4x8, .f32⟩
  | 55 => ⟨S2048x1x4x8, .f32⟩
  | 56 => ⟨S2048x2x4x8, .f32⟩
  | 57 => ⟨S2048x64, .f32⟩
  | 58 => ⟨S_, .f32⟩
  | 59 => ⟨S64x128x128, .f32⟩
  | 60 => ⟨S_, .f32⟩
  | 61 => ⟨S2048x64x128, .f32⟩
  | 62 => ⟨S_, .i32⟩
  | 63 => ⟨S2048x64x128, .f32⟩
  | 64 => ⟨S2048x64x128, .f32⟩
  | 65 => ⟨S2048x64x128, .f32⟩
  | 66 => ⟨S2048x64, .f32⟩
  | 67 => ⟨S2048x64, .f32⟩
  | 68 => ⟨S_, .i32⟩
  | 69 => ⟨S64x128x128, .f32⟩
  | 70 => ⟨S2048x64x128, .f32⟩
  | 71 => ⟨S_, .i32⟩
  | 72 => ⟨S_, .i1⟩
  | 73 => ⟨S_, .i32⟩
  | 74 => ⟨S_, .i32⟩
  | 75 => ⟨S1x64x128, .f32⟩
  | 76 => ⟨S64x128, .f32⟩
  | 77 => ⟨S_, .i32⟩
  | 78 => ⟨S_, .i32⟩
  | 79 => ⟨S1x64x128, .f32⟩
  | 80 => ⟨S64x128, .f32⟩
  | 81 => ⟨S_, .i32⟩
  | 82 => ⟨S_, .i32⟩
  | 83 => ⟨S1x64x128, .f32⟩
  | 84 => ⟨S64x128, .f32⟩
  | 85 => ⟨S_, .i32⟩
  | 86 => ⟨S1x64, .f32⟩
  | 87 => ⟨S64, .f32⟩
  | 88 => ⟨S_, .i32⟩
  | 89 => ⟨S1x64, .f32⟩
  | 90 => ⟨S64, .f32⟩
  | 91 => ⟨S64, .f32⟩
  | 92 => ⟨S64x1x1, .f32⟩
  | 93 => ⟨S64x128x128, .f32⟩
  | 94 => ⟨S64x128x128, .f32⟩
  | 95 => ⟨S64x1, .f32⟩
  | 96 => ⟨S64x128, .f32⟩
  | 97 => ⟨S64x128, .f32⟩
  | 98 => ⟨S64x128, .f32⟩
  | 99 => ⟨S64x128, .f32⟩
  | 100 => ⟨S64x128x1, .f32⟩
  | 101 => ⟨S64x1x128, .f32⟩
  | 102 => ⟨S64x128x128, .f32⟩
  | 103 => ⟨S64x128x128, .f32⟩
  | 104 => ⟨S64x128x128, .f32⟩
  | 105 => ⟨S64x128x128, .f32⟩
  | 106 => ⟨S64x128, .f32⟩
  | 107 => ⟨S1x64x128, .f32⟩
  | 108 => ⟨S_, .i32⟩
  | 109 => ⟨S_, .i32⟩
  | 110 => ⟨S2048x64x128, .f32⟩
  | 111 => ⟨S_, .i32⟩
  | 112 => ⟨S_, .i32⟩
  | 113 => ⟨S2048x2x4x8x128, .f32⟩
  | 114 => ⟨S2048x1x4x8x128, .f32⟩
  | 115 => ⟨S2048x4x8x128, .f32⟩
  | 116 => ⟨S2048x1x4x8x128, .f32⟩
  | 117 => ⟨S2048x4x8x128, .f32⟩
  | 118 => ⟨S2048x4x8x128, .f32⟩
  | 119 => ⟨S2048x4x8x128, .f32⟩
  | 120 => ⟨S4x2048x8x128, .f32⟩
  | 121 => ⟨S4x2048x8x128, .f32⟩
  | 122 => ⟨S_, .f32⟩
  | 123 => ⟨S4x2048x8, .f32⟩
  | 124 => ⟨S4x2048x8x1, .f32⟩
  | 125 => ⟨S_, .f32⟩
  | 126 => ⟨S4x2048x8x1, .f32⟩
  | 127 => ⟨S4x2048x8x1, .f32⟩
  | _ => ⟨S4x2048x9248, .f32⟩

abbrev hbmTy0_2 (i : Nat) : BufTy := match i % 128 with
  | 0 => ⟨S_, .f32⟩
  | 1 => ⟨S4x2048x8x1, .f32⟩
  | 2 => ⟨S4x2048x8x1, .f32⟩
  | 3 => ⟨S4x2048x8x1, .f32⟩
  | 4 => ⟨S4x2048x8x128, .f32⟩
  | 5 => ⟨S4x2048x8x128, .f32⟩
  | 6 => ⟨S1x1x1x128, .f32⟩
  | 7 => ⟨S4x2048x8x128, .f32⟩
  | 8 => ⟨S4x2048x8x128, .f32⟩
  | 9 => ⟨S4x2048x8x128, .f32⟩
  | 10 => ⟨S4x2048x8x128, .f32⟩
  | 11 => ⟨S4x2048x8x128, .f32⟩
  | 12 => ⟨S_, .f32⟩
  | 13 => ⟨S4x2048x8x128, .f32⟩
  | 14 => ⟨S4x2048x8x128, .f32⟩
  | 15 => ⟨S_, .f32⟩
  | 16 => ⟨S4x2048x8x128, .f32⟩
  | 17 => ⟨S4x2048x8x128, .f32⟩
  | 18 => ⟨S4x2048x8x128, .f32⟩
  | 19 => ⟨S4x2048x8x128, .f32⟩
  | 20 => ⟨S4x2048x1024, .f32⟩
  | 21 => ⟨S4x2048x1024, .bf16⟩
  | 22 => ⟨S1024x2048, .bf16⟩
  | 23 => ⟨S1024x2048, .bf16⟩
  | 24 => ⟨S2048x2048, .bf16⟩
  | 25 => ⟨S2048x8192, .bf16⟩
  | 26 => ⟨S8192x2048, .bf16⟩
  | _ => ⟨S4x2048x9248, .f32⟩

abbrev hbmTy (i : Nat) : BufTy := match i / 128 with
  | 0 => hbmTy0_0 i
  | 1 => hbmTy0_1 i
  | 2 => hbmTy0_2 i
  | _ => ⟨S4x2048x9248, .f32⟩

abbrev bufTy : (tb : Table) → Fin (tcTables nBuf tb) → BufTy
  | .hbm, ⟨i, _⟩ => hbmTy i
  | _, _ => ⟨S4x2048x9248, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_c : Ref sig .tc := ⟨.hbm, 15, rfl⟩
abbrev main_call0_v0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_call1_v0 : Ref sig .tc := ⟨.hbm, 55, rfl⟩
abbrev main_call1_v1 : Ref sig .tc := ⟨.hbm, 56, rfl⟩
abbrev main_call1_cst : Ref sig .tc := ⟨.hbm, 57, rfl⟩
abbrev main_call1_v2 : Ref sig .tc := ⟨.hbm, 58, rfl⟩
abbrev main_call1_v3 : Ref sig .tc := ⟨.hbm, 59, rfl⟩
abbrev main_call1_cst_0 : Ref sig .tc := ⟨.hbm, 60, rfl⟩
abbrev main_call1_v4 : Ref sig .tc := ⟨.hbm, 61, rfl⟩
abbrev main_call1_v5 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_0 : Ref sig .tc := ⟨.hbm, 74, rfl⟩
abbrev main_v51 : Ref sig .tc := ⟨.hbm, 75, rfl⟩
abbrev main_v52 : Ref sig .tc := ⟨.hbm, 76, rfl⟩
abbrev main_cst_1 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_2 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_3 : Ref sig .tc := ⟨.hbm, 87, rfl⟩
abbrev main_v61 : Ref sig .tc := ⟨.hbm, 88, rfl⟩
abbrev main_v62 : Ref sig .tc := ⟨.hbm, 89, rfl⟩
abbrev main_cst_4 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_call2_cst : Ref sig .tc := ⟨.hbm, 106, rfl⟩
abbrev main_call2_v0 : Ref sig .tc := ⟨.hbm, 107, rfl⟩
abbrev main_call2_v1 : Ref sig .tc := ⟨.hbm, 108, rfl⟩
abbrev main_call2_v2 : Ref sig .tc := ⟨.hbm, 109, rfl⟩
abbrev main_call2_v3 : Ref sig .tc := ⟨.hbm, 110, rfl⟩
abbrev main_call2_v4 : Ref sig .tc := ⟨.hbm, 111, rfl⟩
abbrev main_call2_v5 : Ref sig .tc := ⟨.hbm, 112, rfl⟩
abbrev main_call2_v6 : Ref sig .tc := ⟨.hbm, 113, rfl⟩
abbrev main_call2_v7 : Ref sig .tc := ⟨.hbm, 114, rfl⟩
abbrev main_call2_v8 : Ref sig .tc := ⟨.hbm, 115, rfl⟩
abbrev main_call2_v9 : Ref sig .tc := ⟨.hbm, 116, rfl⟩
abbrev main_call2_v10 : Ref sig .tc := ⟨.hbm, 117, rfl⟩
abbrev main_call2_v11 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_call3_cst : Ref sig .tc := ⟨.hbm, 128, rfl⟩
abbrev main_call3_v0 : Ref sig .tc := ⟨.hbm, 129, rfl⟩
abbrev main_call3_v1 : Ref sig .tc := ⟨.hbm, 130, rfl⟩
abbrev main_call3_v2 : Ref sig .tc := ⟨.hbm, 131, rfl⟩
abbrev main_call3_v3 : Ref sig .tc := ⟨.hbm, 132, rfl⟩
abbrev main_call3_v4 : Ref sig .tc := ⟨.hbm, 133, rfl⟩
abbrev main_call3_v5 : Ref sig .tc := ⟨.hbm, 134, rfl⟩
abbrev main_call3_v6 : Ref sig .tc := ⟨.hbm, 135, rfl⟩
abbrev main_call3_v7 : Ref sig .tc := ⟨.hbm, 136, rfl⟩
abbrev main_call3_v8 : Ref sig .tc := ⟨.hbm, 137, rfl⟩
abbrev main_call3_v9 : Ref sig .tc := ⟨.hbm, 138, rfl⟩
abbrev main_call3_v10 : Ref sig .tc := ⟨.hbm, 139, rfl⟩
abbrev main_call3_v11 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_cst_5 : Ref sig .tc := ⟨.hbm, 167, rfl⟩
abbrev main_v113 : Ref sig .tc := ⟨.hbm, 168, rfl⟩
abbrev main_v114 : Ref sig .tc := ⟨.hbm, 169, rfl⟩
abbrev main_cst_6 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_cst_7 : Ref sig .tc := ⟨.hbm, 175, rfl⟩
abbrev main_v119 : Ref sig .tc := ⟨.hbm, 176, rfl⟩
abbrev main_v120 : Ref sig .tc := ⟨.hbm, 177, rfl⟩
abbrev main_cst_8 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_v124 : Ref sig .tc := ⟨.hbm, 182, rfl⟩
abbrev main_v125 : Ref sig .tc := ⟨.hbm, 183, rfl⟩
abbrev main_v126 : Ref sig .tc := ⟨.hbm, 184, rfl⟩
abbrev main_v127 : Ref sig .tc := ⟨.hbm, 185, rfl⟩
abbrev main_cst_9 : Ref sig .tc := ⟨.hbm, 186, rfl⟩
abbrev main_v128 : Ref sig .tc := ⟨.hbm, 187, rfl⟩
abbrev main_cst_10 : Ref sig .tc := ⟨.hbm, 188, rfl⟩
abbrev main_v129 : Ref sig .tc := ⟨.hbm, 189, rfl⟩
abbrev main_c_11 : Ref sig .tc := ⟨.hbm, 190, rfl⟩
abbrev main_v130_0 : Ref sig .tc := ⟨.hbm, 191, rfl⟩
abbrev main_v130_1 : Ref sig .tc := ⟨.hbm, 192, rfl⟩
abbrev main_v130_2 : Ref sig .tc := ⟨.hbm, 193, rfl⟩
abbrev main_v130_3 : Ref sig .tc := ⟨.hbm, 194, rfl⟩
abbrev main_v130_4 : Ref sig .tc := ⟨.hbm, 195, rfl⟩
abbrev main_v130_5 : Ref sig .tc := ⟨.hbm, 196, rfl⟩
abbrev main_v130_6 : Ref sig .tc := ⟨.hbm, 197, rfl⟩
abbrev main_v130_7 : Ref sig .tc := ⟨.hbm, 198, rfl⟩
abbrev main_while0c_c_22 : Ref sig .tc := ⟨.hbm, 199, rfl⟩
abbrev main_while0c_v162 : Ref sig .tc := ⟨.hbm, 200, rfl⟩
abbrev main_while0b_call9_c : Ref sig .tc := ⟨.hbm, 201, rfl⟩
abbrev main_while0b_call9_c_0 : Ref sig .tc := ⟨.hbm, 202, rfl⟩
abbrev main_while0b_call9_v0 : Ref sig .tc := ⟨.hbm, 203, rfl⟩
abbrev main_while0b_v162 : Ref sig .tc := ⟨.hbm, 204, rfl⟩
abbrev main_while0b_call10_c : Ref sig .tc := ⟨.hbm, 205, rfl⟩
abbrev main_while0b_call10_c_0 : Ref sig .tc := ⟨.hbm, 206, rfl⟩
abbrev main_while0b_call10_v0 : Ref sig .tc := ⟨.hbm, 207, rfl⟩
abbrev main_while0b_v163 : Ref sig .tc := ⟨.hbm, 208, rfl⟩
abbrev main_while0b_call11_c : Ref sig .tc := ⟨.hbm, 209, rfl⟩
abbrev main_while0b_call11_c_0 : Ref sig .tc := ⟨.hbm, 210, rfl⟩
abbrev main_while0b_call11_v0 : Ref sig .tc := ⟨.hbm, 211, rfl⟩
abbrev main_while0b_v164 : Ref sig .tc := ⟨.hbm, 212, rfl⟩
abbrev main_while0b_call12_c : Ref sig .tc := ⟨.hbm, 213, rfl⟩
abbrev main_while0b_call12_v0 : Ref sig .tc := ⟨.hbm, 214, rfl⟩
abbrev main_while0b_v165 : Ref sig .tc := ⟨.hbm, 215, rfl⟩
abbrev main_while0b_call13_c : Ref sig .tc := ⟨.hbm, 216, rfl⟩
abbrev main_while0b_call13_v0 : Ref sig .tc := ⟨.hbm, 217, rfl⟩
abbrev main_while0b_v166 : Ref sig .tc := ⟨.hbm, 218, rfl⟩
abbrev main_while0b_v167 : Ref sig .tc := ⟨.hbm, 219, rfl⟩
abbrev main_while0b_v168 : Ref sig .tc := ⟨.hbm, 220, rfl⟩
abbrev main_while0b_v169 : Ref sig .tc := ⟨.hbm, 221, rfl⟩
abbrev main_while0b_v170 : Ref sig .tc := ⟨.hbm, 222, rfl⟩
abbrev main_while0b_v171 : Ref sig .tc := ⟨.hbm, 223, rfl⟩
abbrev main_while0b_v172 : Ref sig .tc := ⟨.hbm, 224, rfl⟩
abbrev main_while0b_v173 : Ref sig .tc := ⟨.hbm, 225, rfl⟩
abbrev main_while0b_v174 : Ref sig .tc := ⟨.hbm, 226, rfl⟩
abbrev main_while0b_v175 : Ref sig .tc := ⟨.hbm, 227, rfl⟩
abbrev main_while0b_v176 : Ref sig .tc := ⟨.hbm, 228, rfl⟩
abbrev main_while0b_v177 : Ref sig .tc := ⟨.hbm, 229, rfl⟩
abbrev main_while0b_v178 : Ref sig .tc := ⟨.hbm, 230, rfl⟩
abbrev main_while0b_v179 : Ref sig .tc := ⟨.hbm, 231, rfl⟩
abbrev main_while0b_v180 : Ref sig .tc := ⟨.hbm, 232, rfl⟩
abbrev main_while0b_v181 : Ref sig .tc := ⟨.hbm, 233, rfl⟩
abbrev main_while0b_v182 : Ref sig .tc := ⟨.hbm, 234, rfl⟩
abbrev main_while0b_call14_v0 : Ref sig .tc := ⟨.hbm, 235, rfl⟩
abbrev main_while0b_call14_c : Ref sig .tc := ⟨.hbm, 236, rfl⟩
abbrev main_while0b_call14_c_0 : Ref sig .tc := ⟨.hbm, 237, rfl⟩
abbrev main_while0b_v183 : Ref sig .tc := ⟨.hbm, 238, rfl⟩
abbrev main_while0b_c_22 : Ref sig .tc := ⟨.hbm, 239, rfl⟩
abbrev main_while0b_v184 : Ref sig .tc := ⟨.hbm, 240, rfl⟩
abbrev main_v131 : Ref sig .tc := ⟨.hbm, 241, rfl⟩
abbrev main_v132 : Ref sig .tc := ⟨.hbm, 242, rfl⟩
abbrev main_v133 : Ref sig .tc := ⟨.hbm, 243, rfl⟩
abbrev main_v134 : Ref sig .tc := ⟨.hbm, 244, rfl⟩
abbrev main_v135 : Ref sig .tc := ⟨.hbm, 245, rfl⟩
abbrev main_v136 : Ref sig .tc := ⟨.hbm, 246, rfl⟩
abbrev main_v137 : Ref sig .tc := ⟨.hbm, 247, rfl⟩
abbrev main_v138 : Ref sig .tc := ⟨.hbm, 248, rfl⟩
abbrev main_v139 : Ref sig .tc := ⟨.hbm, 249, rfl⟩
abbrev main_cst_12 : Ref sig .tc := ⟨.hbm, 250, rfl⟩
abbrev main_v140 : Ref sig .tc := ⟨.hbm, 251, rfl⟩
abbrev main_v141 : Ref sig .tc := ⟨.hbm, 252, rfl⟩
abbrev main_cst_13 : Ref sig .tc := ⟨.hbm, 253, rfl⟩
abbrev main_v142 : Ref sig .tc := ⟨.hbm, 254, rfl⟩
abbrev main_v143 : Ref sig .tc := ⟨.hbm, 255, rfl⟩
abbrev main_cst_14 : Ref sig .tc := ⟨.hbm, 256, rfl⟩
abbrev main_v144 : Ref sig .tc := ⟨.hbm, 257, rfl⟩
abbrev main_v145 : Ref sig .tc := ⟨.hbm, 258, rfl⟩
abbrev main_v146 : Ref sig .tc := ⟨.hbm, 259, rfl⟩
abbrev main_v147 : Ref sig .tc := ⟨.hbm, 260, rfl⟩
abbrev main_v148 : Ref sig .tc := ⟨.hbm, 261, rfl⟩
abbrev main_v149 : Ref sig .tc := ⟨.hbm, 262, rfl⟩
abbrev main_v150 : Ref sig .tc := ⟨.hbm, 263, rfl⟩
abbrev main_v151 : Ref sig .tc := ⟨.hbm, 264, rfl⟩
abbrev main_v152 : Ref sig .tc := ⟨.hbm, 265, rfl⟩
abbrev main_call16_v0 : Ref sig .tc := ⟨.hbm, 266, rfl⟩
abbrev main_call16_v1 : Ref sig .tc := ⟨.hbm, 267, rfl⟩
abbrev main_call16_cst : Ref sig .tc := ⟨.hbm, 268, rfl⟩
abbrev main_call16_v2 : Ref sig .tc := ⟨.hbm, 269, rfl⟩
abbrev main_call16_v3 : Ref sig .tc := ⟨.hbm, 270, rfl⟩
abbrev main_call16_cst_0 : Ref sig .tc := ⟨.hbm, 271, rfl⟩
abbrev main_call16_v4 : Ref sig .tc := ⟨.hbm, 272, rfl⟩
abbrev main_call16_v5 : Ref sig .tc := ⟨.hbm, 273, rfl⟩
abbrev main_v153 : Ref sig .tc := ⟨.hbm, 274, rfl⟩
abbrev main_v154 : Ref sig .tc := ⟨.hbm, 275, rfl⟩
abbrev main_v155 : Ref sig .tc := ⟨.hbm, 276, rfl⟩
abbrev main_v156 : Ref sig .tc := ⟨.hbm, 277, rfl⟩
abbrev main_v157 : Ref sig .tc := ⟨.hbm, 278, rfl⟩
abbrev main_v158 : Ref sig .tc := ⟨.hbm, 279, rfl⟩
abbrev main_v159 : Ref sig .tc := ⟨.hbm, 280, rfl⟩
abbrev main_v160 : Ref sig .tc := ⟨.hbm, 281, rfl⟩
abbrev main_v161 : Ref sig .tc := ⟨.hbm, 282, rfl⟩

abbrev nD : Nat := 1
abbrev τ : Topo := Topo.v7x

variable {F : FTy → Type} [FloatOps F]

abbrev main_while0_count : Scf.Loop 32 := ⟨0#32, 2048#32, 1#32⟩
-- ==== Prologue.lean ====
abbrev S4x2048x2048 : Shape := ⟨3, ![4, 2048, 2048]⟩
abbrev S2048 : Shape := ⟨1, ![2048]⟩
abbrev S2048x9248 : Shape := ⟨2, ![2048, 9248]⟩
abbrev S8 : Shape := ⟨1, ![8]⟩
abbrev S9248x2048 : Shape := ⟨2, ![9248, 2048]⟩
abbrev S8192x2048 : Shape := ⟨2, ![8192, 2048]⟩
abbrev S1x2048 : Shape := ⟨2, ![1, 2048]⟩
abbrev S16 : Shape := ⟨1, ![16]⟩
abbrev S_ : Shape := ⟨0, ![]⟩
abbrev S128 : Shape := ⟨1, ![128]⟩
abbrev S1x128 : Shape := ⟨2, ![1, 128]⟩
abbrev S8192x128 : Shape := ⟨2, ![8192, 128]⟩
abbrev S128x8192 : Shape := ⟨2, ![128, 8192]⟩
abbrev S544x2048 : Shape := ⟨2, ![544, 2048]⟩
abbrev S512x2048 : Shape := ⟨2, ![512, 2048]⟩
abbrev S32x2048 : Shape := ⟨2, ![32, 2048]⟩
abbrev S512x128 : Shape := ⟨2, ![512, 128]⟩
abbrev S128x512 : Shape := ⟨2, ![128, 512]⟩
abbrev S128x2048 : Shape := ⟨2, ![128, 2048]⟩
abbrev S128x1 : Shape := ⟨2, ![128, 1]⟩
abbrev S256x256 : Shape := ⟨2, ![256, 256]⟩
abbrev S256x128 : Shape := ⟨2, ![256, 128]⟩
abbrev S256x2048 : Shape := ⟨2, ![256, 2048]⟩
abbrev S128x256 : Shape := ⟨2, ![128, 256]⟩

abbrev nBuf : Space → Nat
  | .hbm => 24
  | .vmem => 17
  | .smem => 0
  | _ => 0

abbrev bufTy : (tb : Table) → Fin (tcTables nBuf tb) → BufTy
  | .hbm, ⟨0, _⟩ => ⟨S4x2048x2048, .f32⟩
  | .hbm, ⟨1, _⟩ => ⟨S2048, .f32⟩
  | .hbm, ⟨2, _⟩ => ⟨S2048x9248, .f32⟩
  | .hbm, ⟨3, _⟩ => ⟨S8, .f32⟩
  | .hbm, ⟨4, _⟩ => ⟨S8, .f32⟩
  | .hbm, ⟨5, _⟩ => ⟨S8, .f32⟩
  | .hbm, ⟨6, _⟩ => ⟨S8, .f32⟩
  | .hbm, ⟨7, _⟩ => ⟨S9248x2048, .f32⟩
  | .hbm, ⟨8, _⟩ => ⟨S8192x2048, .f32⟩
  | .hbm, ⟨9, _⟩ => ⟨S1x2048, .f32⟩
  | .hbm, ⟨10, _⟩ => ⟨S16, .f32⟩
  | .hbm, ⟨11, _⟩ => ⟨S_, .i32⟩
  | .hbm, ⟨12, _⟩ => ⟨S_, .f32⟩
  | .hbm, ⟨13, _⟩ => ⟨S128, .f32⟩
  | .hbm, ⟨14, _⟩ => ⟨S1x128, .f32⟩
  | .hbm, ⟨15, _⟩ => ⟨S16, .f32⟩
  | .hbm, ⟨16, _⟩ => ⟨S_, .i32⟩
  | .hbm, ⟨17, _⟩ => ⟨S_, .f32⟩
  | .hbm, ⟨18, _⟩ => ⟨S128, .f32⟩
  | .hbm, ⟨19, _⟩ => ⟨S1x128, .f32⟩
  | .hbm, ⟨20, _⟩ => ⟨S9248x2048, .bf16⟩
  | .hbm, ⟨21, _⟩ => ⟨S8192x2048, .bf16⟩
  | .hbm, ⟨22, _⟩ => ⟨S8192x128, .f32⟩
  | .hbm, ⟨23, _⟩ => ⟨S128x8192, .f32⟩
  | .local _ .vmem, ⟨0, _⟩ => ⟨S544x2048, .f32⟩
  | .local _ .vmem, ⟨1, _⟩ => ⟨S544x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S32x2048, .f32⟩
  | .local _ .vmem, ⟨6, _⟩ => ⟨S1x128, .f32⟩
  | .local _ .vmem, ⟨7, _⟩ => ⟨S1x128, .f32⟩
  | .local _ .vmem, ⟨8, _⟩ => ⟨S544x2048, .bf16⟩
  | .local _ .vmem, ⟨9, _⟩ => ⟨S544x2048, .bf16⟩
  | .local _ .vmem, ⟨10, _⟩ => ⟨S512x2048, .bf16⟩
  | .local _ .vmem, ⟨11, _⟩ => ⟨S512x2048, .bf16⟩
  | .local _ .vmem, ⟨12, _⟩ => ⟨S512x128, .f32⟩
  | .local _ .vmem, ⟨13, _⟩ => ⟨S512x128, .f32⟩
  | .local _ .vmem, ⟨14, _⟩ => ⟨S128x512, .f32⟩
  | .local _ .vmem, ⟨15, _⟩ => ⟨S128x512, .f32⟩
  | .local _ .vmem, ⟨16, _⟩ => ⟨S128x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_call1_v0 : Ref sig .tc := ⟨.hbm, 17, rfl⟩
abbrev main_v7 : Ref sig .tc := ⟨.hbm, 18, rfl⟩
abbrev main_v8 : Ref sig .tc := ⟨.hbm, 19, rfl⟩
abbrev main_v9_0 : Ref sig .tc := ⟨.hbm, 20, rfl⟩
abbrev main_v9_1 : Ref sig .tc := ⟨.hbm, 21, rfl⟩
abbrev main_v9_2 : Ref sig .tc := ⟨.hbm, 22, rfl⟩
abbrev main_v9_3 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![17], ![false]⟩

def k0_cond2 (i : grid0.Coords) : BitVec 1 :=
  let arg0 : BitVec 32 := BitVec.ofNat 32 (i 0).val
  let c16_i32 : BitVec 32 := 16#32
  let v7 : BitVec 1 := Scalar.cmpi .slt arg0 c16_i32
  let v8 : BitVec 32 := Scalar.extui v7
  let c0_i32_4 : BitVec 32 := 0#32
  let v9 : BitVec 1 := Scalar.cmpi .ne v8 c0_i32_4
  v9

@[reducible] def k0_t1_loop : Scf.Loop 32 :=
  let c0_i32_5 : BitVec 32 := 0#32
  let c4_i32 : BitVec 32 := 4#32
  let v10 : BitVec 32 := Scalar.addi c0_i32_5 c4_i32
  let c1_i32 : BitVec 32 := 1#32
  ⟨c0_i32_5, v10, c1_i32⟩
def k0_mult1 (k0_t1 : Fin k0_t1_loop.trips) : BitVec 32 :=
  let c0_i32_5 : BitVec 32 := 0#32
  let c1_i32 : BitVec 32 := 1#32
  let arg12 : BitVec 32 := Scf.iv c0_i32_5 c1_i32 k0_t1
  let c128_i32 : BitVec 32 := 128#32
  let v182 : BitVec 32 := Scalar.muli arg12 c128_i32
  v182
def k0_off1 (k0_t1 : Fin k0_t1_loop.trips) : Fin 2 → Nat :=
  let c0_i32_5 : BitVec 32 := 0#32
  let c1_i32 : BitVec 32 := 1#32
  let arg12 : BitVec 32 := Scf.iv c0_i32_5 c1_i32 k0_t1
  let c128_i32 : BitVec 32 := 128#32
  let v182 : BitVec 32 := Scalar.muli arg12 c128_i32
  let v183 : BitVec 32 := v182
  let v184 : Index := Scalar.indexCast v183
  let c0_72 : Index := 0#32
  ![v184.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c160_i32 : BitVec 32 := 160#32
  let c0_i32 : BitVec 32 := 0#32
  let c0_i32_0 : BitVec 32 := 0#32
  ![c160_i32.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![c0_i32.toNat, v0.toNat]

abbrev stage0_0 : Fin 2 → Memref sig .tc .vmem S544x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S544x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== PrologueRefIdeal.lean ====
abbrev S4x2048x2048 : Shape := ⟨3, ![4, 2048, 2048]⟩
abbrev S2048 : Shape := ⟨1, ![2048]⟩
abbrev S2048x9248 : Shape := ⟨2, ![2048, 9248]⟩
abbrev S8 : Shape := ⟨1, ![8]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S2048x32 : Shape := ⟨2, ![2048, 32]⟩
abbrev S4x2048x32 : Shape := ⟨3, ![4, 2048, 32]⟩
abbrev S4x2048x128 : Shape := ⟨3, ![4, 2048, 128]⟩
abbrev S16 : Shape := ⟨1, ![16]⟩
abbrev S32 : Shape := ⟨1, ![32]⟩
abbrev S128 : Shape := ⟨1, ![128]⟩
abbrev S1x1x128 : Shape := ⟨3, ![1, 1, 128]⟩
abbrev S4x32x64x128 : Shape := ⟨4, ![4, 32, 64, 128]⟩
abbrev S4x2048x16 : Shape := ⟨3, ![4, 2048, 16]⟩
abbrev S4x2048x8 : Shape := ⟨3, ![4, 2048, 8]⟩
abbrev S4x2048x104 : Shape := ⟨3, ![4, 2048, 104]⟩
abbrev S8192x128 : Shape := ⟨2, ![8192, 128]⟩
abbrev S9248x2048 : Shape := ⟨2, ![9248, 2048]⟩
abbrev S8192x2048 : Shape := ⟨2, ![8192, 2048]⟩
abbrev S128x8192 : Shape := ⟨2, ![128, 8192]⟩

abbrev nBuf : Space → Nat
  | .hbm => 87
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2048, .f32⟩
  | .hbm, ⟨2, _⟩ => ⟨S2048x9248, .f32⟩
  | .hbm, ⟨3, _⟩ => ⟨S8, .f32⟩
  | .hbm, ⟨4, _⟩ => ⟨S8, .f32⟩
  | .hbm, ⟨5, _⟩ => ⟨S8, .f32⟩
  | .hbm, ⟨6, _⟩ => ⟨S8, .f32⟩
  | .hbm, ⟨7, _⟩ => ⟨S4x2048x2048, .f32⟩
  | .hbm, ⟨8, _⟩ => ⟨S_, .f32⟩
  | .hbm, ⟨9, _⟩ => ⟨S4x2048, .f32⟩
  | .hbm, ⟨10, _⟩ => ⟨S4x2048x1, .f32⟩
  | .hbm, ⟨11, _⟩ => ⟨S_, .f32⟩
  | .hbm, ⟨12, _⟩ => ⟨S4x2048x1, .f32⟩
  | .hbm, ⟨13, _⟩ => ⟨S4x2048x1, .f32⟩
  | .hbm, ⟨14, _⟩ => ⟨S_, .f32⟩
  | .hbm, ⟨15, _⟩ => ⟨S4x2048x1, .f32⟩
  | .hbm, ⟨16, _⟩ => ⟨S4x2048x1, .f32⟩
  | .hbm, ⟨17, _⟩ => ⟨S4x2048x1, .f32⟩
  | .hbm, ⟨18, _⟩ => ⟨S4x2048x2048, .f32⟩
  | .hbm, ⟨19, _⟩ => ⟨S4x2048x2048, .f32⟩
  | .hbm, ⟨20, _⟩ => ⟨S1x1x2048, .f32⟩
  | .hbm, ⟨21, _⟩ => ⟨S4x2048x2048, .f32⟩
  | .hbm, ⟨22, _⟩ => ⟨S4x2048x2048, .f32⟩
  | .hbm, ⟨23, _⟩ => ⟨S2048x32, .f32⟩
  | .hbm, ⟨24, _⟩ => ⟨S4x2048x32, .f32⟩
  | .hbm, ⟨25, _⟩ => ⟨S_, .i32⟩
  | .hbm, ⟨26, _⟩ => ⟨S_, .f32⟩
  | .hbm, ⟨27, _⟩ => ⟨S4x2048x128, .f32⟩
  | .hbm, ⟨28, _⟩ => ⟨S_, .f32⟩
  | .hbm, ⟨29, _⟩ => ⟨S16, .f32⟩
  | .hbm, ⟨30, _⟩ => ⟨S32, .f32⟩
  | .hbm, ⟨31, _⟩ => ⟨S_, .i32⟩
  | .hbm, ⟨32, _⟩ => ⟨S_, .f32⟩
  | .hbm, ⟨33, _⟩ => ⟨S128, .f32⟩
  | .hbm, ⟨34, _⟩ => ⟨S32, .f32⟩
  | .hbm, ⟨35, _⟩ => ⟨S_, .i32⟩
  | .hbm, ⟨36, _⟩ => ⟨S_, .f32⟩
  | .hbm, ⟨37, _⟩ => ⟨S128, .f32⟩
  | .hbm, ⟨38, _⟩ => ⟨S128, .f32⟩
  | .hbm, ⟨39, _⟩ => ⟨S128, .f32⟩
  | .hbm, ⟨40, _⟩ => ⟨S1x1x128, .f32⟩
  | .hbm, ⟨41, _⟩ => ⟨S4x2048x128, .f32⟩
  | .hbm, ⟨42, _⟩ => ⟨S4x2048x128, .f32⟩
  | .hbm, ⟨43, _⟩ => ⟨S_, .f32⟩
  | .hbm, ⟨44, _⟩ => ⟨S4x2048x128, .f32⟩
  | .hbm, ⟨45, _⟩ => ⟨S4x2048x128, .f32⟩
  | .hbm, ⟨46, _⟩ => ⟨S4x2048x128, .f32⟩
  | .hbm, ⟨47, _⟩ => ⟨S4x2048x128, .f32⟩
  | .hbm, ⟨48, _⟩ => ⟨S4x2048x128, .i1⟩
  | .hbm, ⟨49, _⟩ => ⟨S4x2048x128, .f32⟩
  | .hbm, ⟨50, _⟩ => ⟨S4x2048x128, .f32⟩
  | .hbm, ⟨51, _⟩ => ⟨S4x2048x128, .f32⟩
  | .hbm, ⟨52, _⟩ => ⟨S4x2048x128, .f32⟩
  | .hbm, ⟨53, _⟩ => ⟨S4x2048x128, .f32⟩
  | .hbm, ⟨54, _⟩ => ⟨S4x2048x128, .f32⟩
  | .hbm, ⟨55, _⟩ => ⟨S4x2048x128, .f32⟩
  | .hbm, ⟨56, _⟩ => ⟨S4x2048x128, .f32⟩
  | .hbm, ⟨57, _⟩ => ⟨S1x1x128, .f32⟩
  | .hbm, ⟨58, _⟩ => ⟨S4x2048x128, .f32⟩
  | .hbm, ⟨59, _⟩ => ⟨S4x2048x128, .f32⟩
  | .hbm, ⟨60, _⟩ => ⟨S4x32x64x128, .f32⟩
  | .hbm, ⟨61, _⟩ => ⟨S_, .f32⟩
  | .hbm, ⟨62, _⟩ => ⟨S_, .f32⟩
  | .hbm, ⟨63, _⟩ => ⟨S4x32x64x128, .f32⟩
  | .hbm, ⟨64, _⟩ => ⟨S4x2048x128, .f32⟩
  | .hbm, ⟨65, _⟩ => ⟨S_, .f32⟩
  | .hbm, ⟨66, _⟩ => ⟨S_, .f32⟩
  | .hbm, ⟨67, _⟩ => ⟨S4x32x64x128, .f32⟩
  | .hbm, ⟨68, _⟩ => ⟨S4x2048x128, .f32⟩
  | .hbm, ⟨69, _⟩ => ⟨S4x2048x128, .f32⟩
  | .hbm, ⟨70, _⟩ => ⟨S4x2048x128, .f32⟩
  | .hbm, ⟨71, _⟩ => ⟨S_, .f32⟩
  | .hbm, ⟨72, _⟩ => ⟨S4x2048x128, .f32⟩
  | .hbm, ⟨73, _⟩ => ⟨S4x2048x128, .f32⟩
  | .hbm, ⟨74, _⟩ => ⟨S_, .f32⟩
  | .hbm, ⟨75, _⟩ => ⟨S4x2048x128, .f32⟩
  | .hbm, ⟨76, _⟩ => ⟨S4x2048x128, .f32⟩
  | .hbm, ⟨77, _⟩ => ⟨S4x2048x16, .f32⟩
  | .hbm, ⟨78, _⟩ => ⟨S4x2048x8, .f32⟩
  | .hbm, ⟨79, _⟩ => ⟨S4x2048x104, .f32⟩
  | .hbm, ⟨80, _⟩ => ⟨S4x2048x128, .f32⟩
  | .hbm, ⟨81, _⟩ => ⟨S8192x128, .f32⟩
  | .hbm, ⟨82, _⟩ => ⟨S9248x2048, .f32⟩
  | .hbm, ⟨83, _⟩ => ⟨S9248x2048, .bf16⟩
  | .hbm, ⟨84, _⟩ => ⟨S4x2048x2048, .bf16⟩
  | .hbm, ⟨85, _⟩ => ⟨S8192x2048, .bf16⟩
  | .hbm, ⟨86, _⟩ => ⟨S128x8192, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c : Ref sig .tc := ⟨.hbm, 25, rfl⟩
abbrev main_call0_v0 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_call1_v0 : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_call2_v0 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_call3_cst : Ref sig .tc := ⟨.hbm, 43, rfl⟩
abbrev main_call3_v0 : Ref sig .tc := ⟨.hbm, 44, rfl⟩
abbrev main_call3_v1 : Ref sig .tc := ⟨.hbm, 45, rfl⟩
abbrev main_call3_v2 : Ref sig .tc := ⟨.hbm, 46, rfl⟩
abbrev main_call3_v3 : Ref sig .tc := ⟨.hbm, 47, rfl⟩
abbrev main_call3_v4 : Ref sig .tc := ⟨.hbm, 48, rfl⟩
abbrev main_call3_v5 : Ref sig .tc := ⟨.hbm, 49, rfl⟩
abbrev main_call3_v6 : Ref sig .tc := ⟨.hbm, 50, rfl⟩
abbrev main_call3_v7 : Ref sig .tc := ⟨.hbm, 51, rfl⟩
abbrev main_call3_v8 : Ref sig .tc := ⟨.hbm, 52, rfl⟩
abbrev main_call3_v9 : Ref sig .tc := ⟨.hbm, 53, rfl⟩
abbrev main_call3_v10 : Ref sig .tc := ⟨.hbm, 54, rfl⟩
abbrev main_call3_v11 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_call4_cst : Ref sig .tc := ⟨.hbm, 61, rfl⟩
abbrev main_call4_v0 : Ref sig .tc := ⟨.hbm, 62, rfl⟩
abbrev main_v31 : Ref sig .tc := ⟨.hbm, 63, rfl⟩
abbrev main_v32 : Ref sig .tc := ⟨.hbm, 64, rfl⟩
abbrev main_call5_cst : Ref sig .tc := ⟨.hbm, 65, rfl⟩
abbrev main_call5_v0 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_cst_5 : Ref sig .tc := ⟨.hbm, 71, rfl⟩
abbrev main_v37 : Ref sig .tc := ⟨.hbm, 72, rfl⟩
abbrev main_v38 : Ref sig .tc := ⟨.hbm, 73, rfl⟩
abbrev main_cst_6 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩

abbrev nD : Nat := 1
abbrev τ : Topo := Topo.v7x

variable {F : FTy → Type} [FloatOps F]
-- ==== Proof.Rows.lean ====
/-
  The row formulas that the kernels and the references share, over the extended reals.
-/
module

public import Idealize.ShloMosaic.Lib.Pointwise

@[expose] public section

noncomputable section

namespace Cert.Rows

open Idealize.ShloMosaic

/-- A row divided by the root of its mean square (over 2048 entries, with the printed epsilon), times a gain. -/
abbrev rms (y g : Fin 2048 → EReal) (l : Fin 2048) : EReal :=
  y l * Ideal.rsqrt (Ideal.div (∑ k, y k * y k) (Ideal.ofBits .f32 0x45000000#32) + Ideal.ofBits .f32 0x358637BD#32) * g l

/-- One hidden unit: the squared relu of a row times a column. -/
abbrev unit {n : ℕ} (h w : Fin n → EReal) : EReal :=
  max (∑ k, h k * w k) 0 * max (∑ k, h k * w k) 0

/-- Row `b * 2048 + t` of the flattened batch. -/
abbrev flat (b : Fin 4) (t : Fin 2048) : Fin 8192 := ⟨b.val * 2048 + t.val, by omega⟩
/-- The batch entry of a flattened row. -/
abbrev bat (r : Fin 8192) : Fin 4 := ⟨r.val / 2048, by omega⟩
/-- The position of a flattened row in its batch entry. -/
abbrev pos (r : Fin 8192) : Fin 2048 := ⟨r.val % 2048, by omega⟩

/-- An index of a rank-two array by its two coordinates. -/
theorem ix2_eta {a b : ℕ} (i : (⟨2, ![a, b]⟩ : Shape).Idx) : i = ix2 (i 0) (i 1) := eq_ix2 i

end Cert.Rows

end
-- ==== Proof.Circle.lean ====
/-
  The tables of the discrete Fourier transform of 2048 positions, at the ideal values: the printed angle is `2π/2048`, the
  32-bit products are the products, and the rows of the circle's lower half are those of its upper half, mirrored.
-/
module

public import proofs.«01_k».proof.Proof.Rows
public import Idealize.ShloMosaic.Lib.IdealHost
public import Mathlib.Analysis.SpecialFunctions.Trigonometric.Inverse

@[expose] public section

noncomputable section

namespace Cert.Circle

open Idealize.ShloMosaic

/-- The cosine and the sine of `k * n` steps of the circle of 2048 points. -/
def co (k n : ℕ) : ℝ := Real.cos ((k * n : ℕ) * (2 * Real.pi / 2048))
def si (k n : ℕ) : ℝ := Real.sin ((k * n : ℕ) * (2 * Real.pi / 2048))

/-- The step as it is printed: twice the angle of minus one, over 2048. -/
abbrev step : EReal :=
  Ideal.div (Ideal.ofBits .f32 0x40000000#32 * Ideal.acos (Ideal.ofBits .f32 0xBF800000#32)) (Ideal.ofBits .f32 0x45000000#32)

theorem ofBits_two : Ideal.ofBits .f32 0x40000000#32 = ((2 : ℝ) : EReal) := by
  simp [Ideal.ofBits, Ideal.ieee, -EReal.coe_mul]; norm_num

theorem ofBits_neg_one : Ideal.ofBits .f32 0xBF800000#32 = ((-1 : ℝ) : EReal) := by
  simp [Ideal.ofBits, Ideal.ieee, -EReal.coe_mul, -EReal.coe_neg]; norm_num

theorem ofBits_2048 : Ideal.ofBits .f32 0x45000000#32 = ((2048 : ℝ) : EReal) := by
  simp [Ideal.ofBits, Ideal.ieee, -EReal.coe_mul]; norm_num

theorem ofBits_scale : Ideal.ofBits .f32 0x3B000000#32 = ((1 / 512 : ℝ) : EReal) := by
  simp [Ideal.ofBits, Ideal.ieee, -EReal.coe_mul]; norm_num

theorem ofBits_262144 : Ideal.ofBits .f32 0x48800000#32 = ((262144 : ℝ) : EReal) := by
  simp [Ideal.ofBits, Ideal.ieee, -EReal.coe_mul]; norm_num

theorem div_coe (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

theorem step_eq : step = ((2 * Real.pi / 2048 : ℝ) : EReal) := by
  unfold step
  rw [ofBits_two, ofBits_neg_one, ofBits_2048, Ideal.acos_coe, if_pos (by norm_num), Real.arccos_neg_one, ← EReal.coe_mul,
    div_coe _ _ (by norm_num)]

/-- The product of two small indices, as 32-bit integers. -/
theorem muli_toInt (k n : ℕ) (h : k * n < 2 ^ 31) :
    (IntOp.muli (BitVec.ofNat 32 k) (BitVec.ofNat 32 n)).toInt = ((k * n : ℕ) : ℤ) := by
  have e : IntOp.muli (BitVec.ofNat 32 k) (BitVec.ofNat 32 n) = BitVec.ofNat 32 (k * n) := by
    unfold IntOp.muli; exact (BitVec.ofNat_mul _ _).symm
  rw [e, BitVec.toInt_ofNat']
  norm_num at h ⊢
  exact Int.bmod_eq_of_le (by omega) (by omega)

/-- Its remainder by 2048. -/
theorem remsi_toInt (k n : ℕ) (h : k * n < 2 ^ 31) :
    (IntOp.remsi ArithUnit.host (IntOp.muli (BitVec.ofNat 32 k) (BitVec.ofNat 32 n)) 2048#32).toInt = ((k * n % 2048 : ℕ) : ℤ) := by
  unfold IntOp.remsi
  rw [if_neg (by unfold IntOp.SDivCorner; simp), BitVec.toInt_srem, muli_toInt k n h]
  rfl

/-- Whole turns do not change the cosine and the sine. -/
theorem cos_mod (a : ℕ) : Real.cos ((a % 2048 : ℕ) * (2 * Real.pi / 2048)) = Real.cos ((a : ℕ) * (2 * Real.pi / 2048)) := by
  conv_rhs => rw [← Nat.mod_add_div a 2048]
  rw [show ((a % 2048 + 2048 * (a / 2048) : ℕ) : ℝ) * (2 * Real.pi / 2048)
      = (a % 2048 : ℕ) * (2 * Real.pi / 2048) + (a / 2048 : ℕ) * (2 * Real.pi) by push_cast; ring, Real.cos_add_nat_mul_two_pi]

theorem sin_mod (a : ℕ) : Real.sin ((a % 2048 : ℕ) * (2 * Real.pi / 2048)) = Real.sin ((a : ℕ) * (2 * Real.pi / 2048)) := by
  conv_rhs => rw [← Nat.mod_add_div a 2048]
  rw [show ((a % 2048 + 2048 * (a / 2048) : ℕ) : ℝ) * (2 * Real.pi / 2048)
      = (a % 2048 : ℕ) * (2 * Real.pi / 2048) + (a / 2048 : ℕ) * (2 * Real.pi) by push_cast; ring, Real.sin_add_nat_mul_two_pi]

/-! ## The tables' entries as printed -/

theorem cos_reduced (k n : ℕ) (h : k * n < 2 ^ 31) :
    Ideal.cos (FloatOps.sitofp (F := Ideal) FTy.f32 (IntOp.remsi ArithUnit.host (IntOp.muli (BitVec.ofNat 32 k) (BitVec.ofNat 32 n)) 2048#32) * step)
      = (co k n : EReal) := by
  show Ideal.cos ((((IntOp.remsi ArithUnit.host (IntOp.muli (BitVec.ofNat 32 k) (BitVec.ofNat 32 n)) 2048#32).toInt : ℝ) : EReal) * step) = _
  rw [remsi_toInt k n h, step_eq, ← EReal.coe_mul]
  show ((Real.cos _ : ℝ) : EReal) = _
  rw [Int.cast_natCast, cos_mod, co]

theorem sin_reduced (k n : ℕ) (h : k * n < 2 ^ 31) :
    Ideal.sin (FloatOps.sitofp (F := Ideal) FTy.f32 (IntOp.remsi ArithUnit.host (IntOp.muli (BitVec.ofNat 32 k) (BitVec.ofNat 32 n)) 2048#32) * step)
      = (si k n : EReal) := by
  show Ideal.sin ((((IntOp.remsi ArithUnit.host (IntOp.muli (BitVec.ofNat 32 k) (BitVec.ofNat 32 n)) 2048#32).toInt : ℝ) : EReal) * step) = _
  rw [remsi_toInt k n h, step_eq, ← EReal.coe_mul]
  show ((Real.sin _ : ℝ) : EReal) = _
  rw [Int.cast_natCast, sin_mod, si]

theorem cos_full (k n : ℕ) (h : k * n < 2 ^ 31) :
    Ideal.cos (FloatOps.sitofp (F := Ideal) FTy.f32 (IntOp.muli (BitVec.ofNat 32 k) (BitVec.ofNat 32 n)) * step) = (co k n : EReal) := by
  show Ideal.cos ((((IntOp.muli (BitVec.ofNat 32 k) (BitVec.ofNat 32 n)).toInt : ℝ) : EReal) * step) = _
  rw [muli_toInt k n h, step_eq, ← EReal.coe_mul]
  show ((Real.cos _ : ℝ) : EReal) = _
  rw [Int.cast_natCast, co]

theorem sin_full (k n : ℕ) (h : k * n < 2 ^ 31) :
    Ideal.sin (FloatOps.sitofp (F := Ideal) FTy.f32 (IntOp.muli (BitVec.ofNat 32 k) (BitVec.ofNat 32 n)) * step) = (si k n : EReal) := by
  show Ideal.sin ((((IntOp.muli (BitVec.ofNat 32 k) (BitVec.ofNat 32 n)).toInt : ℝ) : EReal) * step) = _
  rw [muli_toInt k n h, step_eq, ← EReal.coe_mul]
  show ((Real.sin _ : ℝ) : EReal) = _
  rw [Int.cast_natCast, si]

/-! ## The lower half of the circle -/

/-- Row `1024 + i` is row `1024 - i`, its sines negated. -/
theorem mirror (i n : ℕ) (hi : i ≤ 1024) :
    (((1024 + i) * n : ℕ) : ℝ) * (2 * Real.pi / 2048) = (n : ℕ) * (2 * Real.pi) - ((1024 - i) * n : ℕ) * (2 * Real.pi / 2048) := by
  push_cast [Nat.cast_sub hi]; ring

theorem co_mirror (i n : ℕ) (hi : i ≤ 1024) : co (1024 + i) n = co (1024 - i) n := by
  rw [co, mirror i n hi, Real.cos_nat_mul_two_pi_sub, co]

theorem si_mirror (i n : ℕ) (hi : i ≤ 1024) : si (1024 + i) n = -si (1024 - i) n := by
  rw [si, mirror i n hi, Real.sin_nat_mul_two_pi_sub, si]

/-- Half way round every sine vanishes. -/
theorem si_half (n : ℕ) : si 1024 n = 0 := by
  rw [si, show ((1024 * n : ℕ) : ℝ) * (2 * Real.pi / 2048) = (n : ℕ) * Real.pi by push_cast; ring, Real.sin_nat_mul_pi]

/-- The reference's divisor. -/
theorem sqrt_262144 : Ideal.sqrt (Ideal.ofBits .f32 0x48800000#32) = ((512 : ℝ) : EReal) := by
  rw [ofBits_262144]
  show (if (262144 : ℝ) < 0 then ⊥ else ((Real.sqrt 262144 : ℝ) : EReal)) = _
  rw [if_neg (by norm_num), show (262144 : ℝ) = 512 ^ 2 by norm_num, Real.sqrt_sq (by norm_num)]

end Cert.Circle

end
-- ==== Proof.DftBody.lean ====
/-
  The sequence transform of one batch entry: its rows as sums over the positions, and the kernel's body at one index. The
  body forms the upper half of the rows and takes the lower half from it: row `1024 + i` is row `1024 - i` with the sine
  part negated, picked out by a product with a reversing permutation; row 1024 has no sine part.
-/
module

public import proofs.«01_k».proof.Proof.Gen.DftIdeal.Value
public import proofs.«01_k».proof.Proof.Circle

@[expose] public section

noncomputable section

namespace Cert.DftProof

open Cert.Rows Cert.Circle Idealize.ShloMosaic Idealize.ShloMosaic.TcCoe Idealize.SL.Sem

/-- Row `k` of the transform of a complex column: the real part of its sum against the circle, over 512. -/
abbrev dft (re im : Fin 2048 → EReal) (k : ℕ) : EReal :=
  (∑ x : Fin 2048, (co k x : EReal) * re x + ∑ x : Fin 2048, (si k x : EReal) * im x) * ((1 / 512 : ℝ) : EReal)

/-- The scale distributes over any sum. -/
theorem scale_add (a b : EReal) : a * ((1 / 512 : ℝ) : EReal) + b * ((1 / 512 : ℝ) : EReal) = (a + b) * ((1 / 512 : ℝ) : EReal) :=
  (EReal.right_distrib_of_nonneg_of_ne_top (by exact_mod_cast (by norm_num : (0 : ℝ) ≤ 1 / 512)) (EReal.coe_ne_top _) a b).symm

/-- A sum of real products is real. -/
theorem sum_coe (a r : Fin 2048 → ℝ) : ∑ x, (a x : EReal) * (r x : EReal) = ((∑ x, a x * r x : ℝ) : EReal) := by
  simp only [← EReal.coe_mul]
  exact (map_sum (⟨⟨(fun r : ℝ => (r : EReal)), EReal.coe_zero⟩, EReal.coe_add⟩ : ℝ →+ EReal) _ _).symm

/-- A lower row, of the upper row it mirrors: where the second column is real. -/
theorem dft_mirror (re im : Fin 2048 → EReal) (him : ∀ x, ∃ r : ℝ, im x = r) (i : ℕ) (hi : i ≤ 1024) :
    (∑ x : Fin 2048, (co (1024 - i) x : EReal) * re x) * ((1 / 512 : ℝ) : EReal)
      - (∑ x : Fin 2048, (si (1024 - i) x : EReal) * im x) * ((1 / 512 : ℝ) : EReal) = dft re im (1024 + i) := by
  choose r hr using him
  unfold dft
  rw [← scale_add]
  simp only [hr, co_mirror i _ hi, si_mirror i _ hi]
  rw [sum_coe, sum_coe, sub_eq_add_neg, ← EReal.coe_mul, ← EReal.coe_mul, ← EReal.coe_neg]
  congr 2
  simp only [neg_mul, Finset.sum_neg_distrib]

/-- The middle row. -/
theorem dft_half (re im : Fin 2048 → EReal) :
    (∑ x : Fin 2048, (co 1024 x : EReal) * re x) * ((1 / 512 : ℝ) : EReal) = dft re im 1024 := by
  unfold dft
  simp only [si_half, EReal.coe_zero, zero_mul, Finset.sum_const_zero, add_zero]

open Cert.DftIdeal Cert.DftIdeal.Gen

/-! ## The body's four payloads at an index, of the loads -/

variable (c : FVec Ideal S1032x2048 .bf16) (re : FVec Ideal S1x2048x512 .bf16) (s : FVec Ideal S1024x2048 .bf16)
  (im : FVec Ideal S1x2048x512 .bf16) (p : FVec Ideal S1024x1024 .bf16)

abbrev upperOf (k : Fin 1024) (l : Fin 512) : EReal :=
  (∑ x : Fin 2048, c (ix2 ⟨k.val, by omega⟩ x) * re (ix3 0 x l)) * Ideal.ofBits .f32 989855744#32
    + (∑ x : Fin 2048, s (ix2 k x) * im (ix3 0 x l)) * Ideal.ofBits .f32 989855744#32

abbrev lowerOf (k : Fin 1024) (l : Fin 512) : EReal :=
  Scalar.select (IntOp.cmpi .eq (BitVec.ofNat 32 k.val) 0#32)
    ((∑ x : Fin 2048, c (ix2 1024 x) * re (ix3 0 x l)) * Ideal.ofBits .f32 989855744#32)
    (∑ y : Fin 1024, p (ix2 k y) * ((∑ x : Fin 2048, c (ix2 ⟨y.val, by omega⟩ x) * re (ix3 0 x l)) * Ideal.ofBits .f32 989855744#32
      - (∑ x : Fin 2048, s (ix2 y x) * im (ix3 0 x l)) * Ideal.ofBits .f32 989855744#32))

theorem pay7_apply (k : Fin 1024) (l : Fin 512) : k0_pay7 (F := Ideal) c re s im (ix2 k l) = upperOf c re s im k l := by
  pointwise [k0_pay7, k0_pay6, k0_pay5]

theorem pay3_apply (k : Fin 1024) (l : Fin 512) : k0_pay3 (F := Ideal) c re s im (ix2 k l) = upperOf c re s im k l := by
  pointwise [k0_pay3, k0_pay2, k0_pay1]

theorem pay8_apply (k : Fin 1024) (l : Fin 512) : k0_pay8 (F := Ideal) c re s im p (ix2 k l) = lowerOf c re s im p k l := by
  pointwise [k0_pay8, k0_pay6, k0_pay5]

theorem pay4_apply (k : Fin 1024) (l : Fin 512) :
    k0_pay4 (F := Ideal) (iota .tc S1024x512 32 [0] iota_S1024x512_d0_w32) c re s im p (ix2 k l) = lowerOf c re s im p k l := by
  pointwise [k0_pay4, k0_pay2, k0_pay1]

/-! ## … and where the tables hold the circle and the permutation -/

variable (hc : ∀ k x, c (ix2 k x) = (co k.val x.val : EReal)) (hs : ∀ k x, s (ix2 k x) = (si k.val x.val : EReal))

include hc hs in
theorem upper_eq (k : Fin 1024) (l : Fin 512) :
    upperOf c re s im k l = dft (fun x => re (ix3 0 x l)) (fun x => im (ix3 0 x l)) k.val := by
  unfold upperOf dft
  simp only [hc, hs, ofBits_scale]
  exact scale_add _ _

variable (hp : ∀ k y, p (ix2 k y) = if 0 < k.val ∧ k.val + y.val = 1024 then (1 : EReal) else 0)
  (him : ∀ x l, ∃ r : ℝ, im (ix3 0 x l) = r)

include hc hs hp him in
theorem lower_eq (k : Fin 1024) (l : Fin 512) :
    lowerOf c re s im p k l = dft (fun x => re (ix3 0 x l)) (fun x => im (ix3 0 x l)) (1024 + k.val) := by
  unfold lowerOf
  simp only [hc, hs, ofBits_scale]
  by_cases hk : k.val = 0
  · rw [hk, show IntOp.cmpi .eq (BitVec.ofNat 32 0) 0#32 = 1#1 by decide]
    exact dft_half _ _
  · have h0 : IntOp.cmpi .eq (BitVec.ofNat 32 k.val) 0#32 = 0#1 := by
      have hne : BitVec.ofNat 32 k.val ≠ 0#32 := by
        intro h
        have := congrArg BitVec.toNat h
        simp at this
        omega
      unfold IntOp.cmpi
      simp only [beq_eq_false_iff_ne.mpr hne]
      rfl
    rw [h0, Scalar.select, if_neg (by decide), Finset.sum_eq_single (⟨1024 - k.val, by omega⟩ : Fin 1024)]
    · rw [hp, if_pos ⟨by omega, by show k.val + (1024 - k.val) = 1024; omega⟩, one_mul]
      exact dft_mirror _ _ (fun x => him x l) k.val (by omega)
    · intro y _ hy
      rw [hp, if_neg (fun h => hy (Fin.ext (by show y.val = 1024 - k.val; omega))), zero_mul]
    · exact fun h => absurd (Finset.mem_univ _) h

end Cert.DftProof

end
-- ==== Proof.DftArrays.lean ====
/-
  The arrays the transform's windows read, in terms of the arguments: the columns of the two argument arrays with the batch
  entries side by side, the circle's tables and the reversing permutation; and the windows' blocks, one batch entry each.
-/
module

public import proofs.«01_k».proof.Proof.DftBody

@[expose] public section

set_option maxRecDepth 16384

noncomputable section

namespace Cert.DftProof

open Cert.Rows Cert.Circle Idealize.ShloMosaic Idealize.ShloMosaic.TcCoe Idealize.SL.Sem
open Cert.DftIdeal Cert.DftIdeal.Gen

/-! ## The host's arrays at an index -/

/-- The step, as the host computes it. -/
abbrev hostStep : FVec Ideal S_ .f32 :=
  Host.divf (mulf (constant S_ .f32 0x40000000#32) (Host.acos (constant S_ .f32 0xBF800000#32))) (constant S_ .f32 0x45000000#32)

abbrev cosHost : FVec Ideal S1032x2048 .f32 :=
  (Host.cos (mulf (sitofp .f32 (Host.remsi (muli (iotaInDim S1032x2048 32 0) (iotaInDim S1032x2048 32 1))
    (broadcastInDim S1032x2048 ![] bcast_S_S1032x2048 (constantI S_ 32 2048#32)))) (broadcastInDim S1032x2048 ![] bcast_S_S1032x2048 hostStep)))

abbrev cosTable : FVec Ideal S1032x2048 .bf16 := truncf .bf16 cosHost bitsLt_bf16_f32

abbrev sinHost : FVec Ideal S1024x2048 .f32 :=
  (Host.sin (mulf (sitofp .f32 (Host.remsi (muli (iotaInDim S1024x2048 32 0) (iotaInDim S1024x2048 32 1))
    (broadcastInDim S1024x2048 ![] bcast_S_S1024x2048 (constantI S_ 32 2048#32)))) (broadcastInDim S1024x2048 ![] bcast_S_S1024x2048 hostStep)))

abbrev sinTable : FVec Ideal S1024x2048 .bf16 := truncf .bf16 sinHost bitsLt_bf16_f32

abbrev pickHost : IVec S1024x1024 1 :=
  andi (cmpi .sgt (iotaInDim S1024x1024 32 0) (broadcastInDim S1024x1024 ![] bcast_S_S1024x1024 (constantI S_ 32 0#32)))
    (cmpi .eq (addi (iotaInDim S1024x1024 32 0) (iotaInDim S1024x1024 32 1)) (broadcastInDim S1024x1024 ![] bcast_S_S1024x1024 (constantI S_ 32 1024#32)))

abbrev permTable : FVec Ideal S1024x1024 .bf16 :=
  truncf .bf16 (select pickHost (broadcastInDim S1024x1024 ![] bcast_S_S1024x1024 (constant (F := Ideal) S_ .f32 0x3F800000#32))
    (broadcastInDim S1024x1024 ![] bcast_S_S1024x1024 (constant (F := Ideal) S_ .f32 0x00000000#32))) bitsLt_bf16_f32

abbrev sideBySide (re im : FVec Ideal S4x2048x1024 .f32) : FVec Ideal S2x2048x4096 .bf16 :=
  truncf .bf16 (shapeCast S2x2048x4096 (transpose S2x2048x4x1024 [0, 2, 1, 3] (concatenate S2x4x2048x1024 0
    [⟨S1x4x2048x1024, broadcastInDim S1x4x2048x1024 ![1, 2, 3] bcast_S4x2048x1024_S1x4x2048x1024_1_2_3 re⟩,
     ⟨S1x4x2048x1024, broadcastInDim S1x4x2048x1024 ![1, 2, 3] bcast_S4x2048x1024_S1x4x2048x1024_1_2_3 im⟩]
    concatenates_S1x4x2048x1024_S1x4x2048x1024_S2x4x2048x1024_d0) transposes_S2x4x2048x1024_S2x2048x4x1024_0_2_1_3)
    shapeCasts_S2x2048x4x1024_S2x2048x4096) bitsLt_bf16_f32

theorem cosTable_apply (k : Fin 1032) (n : Fin 2048) : cosTable (ix2 k n) = (co k.val n.val : EReal) := by
  have e : cosTable (ix2 k n) = Ideal.cos (FloatOps.sitofp (F := Ideal) FTy.f32
      (IntOp.remsi ArithUnit.host (IntOp.muli (BitVec.ofNat 32 k.val) (BitVec.ofNat 32 n.val)) 2048#32) * step) := by pointwise
  exact e.trans (cos_reduced _ _ (by nlinarith [k.isLt, n.isLt]))

theorem sinTable_apply (k : Fin 1024) (n : Fin 2048) : sinTable (ix2 k n) = (si k.val n.val : EReal) := by
  have e : sinTable (ix2 k n) = Ideal.sin (FloatOps.sitofp (F := Ideal) FTy.f32
      (IntOp.remsi ArithUnit.host (IntOp.muli (BitVec.ofNat 32 k.val) (BitVec.ofNat 32 n.val)) 2048#32) * step) := by pointwise
  exact e.trans (sin_reduced _ _ (by nlinarith [k.isLt, n.isLt]))

/-- The comparisons of two small indices the permutation is read from. -/
theorem pick (k n : Fin 1024) :
    IntOp.andi (IntOp.cmpi .sgt (BitVec.ofNat 32 k.val) 0#32)
        (IntOp.cmpi .eq (IntOp.addi (BitVec.ofNat 32 k.val) (BitVec.ofNat 32 n.val)) 1024#32)
      = if 0 < k.val ∧ k.val + n.val = 1024 then 1#1 else 0#1 := by
  have ha : IntOp.addi (BitVec.ofNat 32 k.val) (BitVec.ofNat 32 n.val) = BitVec.ofNat 32 (k.val + n.val) := (BitVec.ofNat_add _ _).symm
  have h1 : (0#32).slt (BitVec.ofNat 32 k.val) = decide (0 < k.val) := by
    have hk : (BitVec.ofNat 32 k.val).toInt = (k.val : ℤ) := by
      rw [BitVec.toInt_ofNat']; exact Int.bmod_eq_of_le (by omega) (by omega)
    rw [BitVec.slt, hk]
    simp
  have h2 : (BitVec.ofNat 32 (k.val + n.val) == 1024#32) = decide (k.val + n.val = 1024) := by
    rw [Bool.eq_iff_iff, beq_iff_eq, decide_eq_true_iff]
    refine ⟨fun h => ?_, fun h => by rw [h]⟩
    have := congrArg BitVec.toNat h
    simp only [BitVec.toNat_ofNat] at this
    omega
  rw [ha]
  show IntOp.andi (BitVec.ofBool ((0#32).slt (BitVec.ofNat 32 k.val))) (BitVec.ofBool (BitVec.ofNat 32 (k.val + n.val) == 1024#32)) = _
  rw [h1, h2]
  by_cases a : 0 < k.val <;> by_cases b : k.val + n.val = 1024 <;> simp only [a, b, and_true, and_false, true_and, if_true, if_false, decide_true, decide_false] <;> rfl

theorem permTable_apply (k n : Fin 1024) : permTable (ix2 k n) = if 0 < k.val ∧ k.val + n.val = 1024 then (1 : EReal) else 0 := by
  have e : permTable (ix2 k n) = Scalar.select (IntOp.andi (IntOp.cmpi .sgt (BitVec.ofNat 32 k.val) 0#32)
      (IntOp.cmpi .eq (IntOp.addi (BitVec.ofNat 32 k.val) (BitVec.ofNat 32 n.val)) 1024#32)) (1 : EReal) 0 := by pointwise
  rw [e, pick]
  by_cases h : 0 < k.val ∧ k.val + n.val = 1024
  · rw [if_pos h, if_pos h]; rfl
  · rw [if_neg h, if_neg h]; rfl

theorem side_re (re im : FVec Ideal S4x2048x1024 .f32) (b : Fin 4) (n : Fin 2048) (l : Fin 1024) :
    sideBySide re im (ix3 0 n ⟨b.val * 1024 + l.val, by omega⟩) = re (ix3 b n l) := by pointwise

theorem side_im (re im : FVec Ideal S4x2048x1024 .f32) (b : Fin 4) (n : Fin 2048) (l : Fin 1024) :
    sideBySide re im (ix3 1 n ⟨b.val * 1024 + l.val, by omega⟩) = im (ix3 b n l) := by pointwise

/-! ## The windows' blocks -/

/-- Where each window's block lies at each point. -/
theorem index_facts : ∀ t : Fin cfg0.N,
    (win0_0.index t (0 : Fin 3) = 0 ∧ win0_0.index t (1 : Fin 3) = 0 ∧ win0_0.index t (2 : Fin 3) = t.val)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = t.val) :=
  (by decide +kernel : ∀ t : Fin grid0.N, _)

variable (t : Fin cfg0.N) (b : Fin 4) (hb : b.val = t.val)

include hb in
theorem blk_at0 (A : FVec Ideal S2x2048x4096 .bf16) (z : Fin 2) (n : Fin 2048) (l : Fin 1024) :
    (((cfg0.win 0).blk t).view.read (Elt Ideal) A : FVec Ideal S2x2048x1024 .bf16) (ix3 z n l) = A (ix3 z n ⟨b.val * 1024 + l.val, by omega⟩) := by
  refine congrArg A (funext fun a => Fin.ext ?_)
  have := (index_facts t).1
  match a with
  | ⟨0, _⟩ => show win0_0.index t (0 : Fin 3) * 2 + 1 * z.val = z.val; omega
  | ⟨1, _⟩ => show win0_0.index t (1 : Fin 3) * 2048 + 1 * n.val = n.val; omega
  | ⟨2, _⟩ => show win0_0.index t (2 : Fin 3) * 1024 + 1 * l.val = b.val * 1024 + l.val; omega

theorem blk_at1 (A : FVec Ideal S1032x2048 .bf16) (k : Fin 1032) (n : Fin 2048) :
    (((cfg0.win 1).blk t).view.read (Elt Ideal) A : FVec Ideal S1032x2048 .bf16) (ix2 k n) = A (ix2 k n) := by
  refine congrArg A (funext fun a => Fin.ext ?_)
  have := (index_facts t).2.1
  match a with
  | ⟨0, _⟩ => show win0_1.index t (0 : Fin 2) * 1032 + 1 * k.val = k.val; omega
  | ⟨1, _⟩ => show win0_1.index t (1 : Fin 2) * 2048 + 1 * n.val = n.val; omega

theorem blk_at2 (A : FVec Ideal S1024x2048 .bf16) (k : Fin 1024) (n : Fin 2048) :
    (((cfg0.win 2).blk t).view.read (Elt Ideal) A : FVec Ideal S1024x2048 .bf16) (ix2 k n) = A (ix2 k n) := by
  refine congrArg A (funext fun a => Fin.ext ?_)
  have := (index_facts t).2.2.1
  match a with
  | ⟨0, _⟩ => show win0_2.index t (0 : Fin 2) * 1024 + 1 * k.val = k.val; omega
  | ⟨1, _⟩ => show win0_2.index t (1 : Fin 2) * 2048 + 1 * n.val = n.val; omega

theorem blk_at3 (A : FVec Ideal S1024x1024 .bf16) (k : Fin 1024) (n : Fin 1024) :
    (((cfg0.win 3).blk t).view.read (Elt Ideal) A : FVec Ideal S1024x1024 .bf16) (ix2 k n) = A (ix2 k n) := by
  refine congrArg A (funext fun a => Fin.ext ?_)
  have := (index_facts t).2.2.2.1
  match a with
  | ⟨0, _⟩ => show win0_3.index t (0 : Fin 2) * 1024 + 1 * k.val = k.val; omega
  | ⟨1, _⟩ => show win0_3.index t (1 : Fin 2) * 1024 + 1 * n.val = n.val; omega

/-! ## The arrays as the region finds them -/

section Host
variable (W : Valuation τ sig (Elt Ideal))

theorem last_side : StableHlo.after (hostOps0_2 (F := Ideal)) W main_v38 = (sideBySide (W main_arg0) (W main_arg1) : FVec Ideal S2x2048x4096 .bf16) := by
  unfold hostOps0_2; after_results; rfl
theorem last_cos : StableHlo.after (hostOps0_2 (F := Ideal)) W main_v39
    = (truncf .bf16 (W main_v11 : FVec Ideal S1032x2048 .f32) bitsLt_bf16_f32 : FVec Ideal S1032x2048 .bf16) := by
  unfold hostOps0_2; after_results
theorem last_sin : StableHlo.after (hostOps0_2 (F := Ideal)) W main_v40
    = (truncf .bf16 (W main_v23 : FVec Ideal S1024x2048 .f32) bitsLt_bf16_f32 : FVec Ideal S1024x2048 .bf16) := by
  unfold hostOps0_2; after_results
theorem last_perm : StableHlo.after (hostOps0_2 (F := Ideal)) W main_v41
    = (truncf .bf16 (W main_v32 : FVec Ideal S1024x1024 .f32) bitsLt_bf16_f32 : FVec Ideal S1024x1024 .bf16) := by
  unfold hostOps0_2; after_results
theorem mid_arg0 : StableHlo.after (hostOps0_1 (F := Ideal)) W main_arg0 = W main_arg0 := by unfold hostOps0_1; after_results
theorem mid_arg1 : StableHlo.after (hostOps0_1 (F := Ideal)) W main_arg1 = W main_arg1 := by unfold hostOps0_1; after_results
theorem mid_cos : StableHlo.after (hostOps0_1 (F := Ideal)) W main_v11 = W main_v11 := by unfold hostOps0_1; after_results
theorem mid_sin : StableHlo.after (hostOps0_1 (F := Ideal)) W main_v23 = W main_v23 := by unfold hostOps0_1; after_results
theorem mid_perm : StableHlo.after (hostOps0_1 (F := Ideal)) W main_v32
    = (select (W main_v31 : IVec S1024x1024 1) (broadcastInDim S1024x1024 ![] bcast_S_S1024x1024 (W main_cst_8 : FVec Ideal S_ .f32))
      (broadcastInDim S1024x1024 ![] bcast_S_S1024x1024 (W main_cst_9 : FVec Ideal S_ .f32)) : FVec Ideal S1024x1024 .f32) := by
  unfold hostOps0_1; after_results; rfl
theorem first_arg0 : StableHlo.after (hostOps0 (F := Ideal)) W main_arg0 = W main_arg0 := by unfold hostOps0; after_results
theorem first_arg1 : StableHlo.after (hostOps0 (F := Ideal)) W main_arg1 = W main_arg1 := by unfold hostOps0; after_results
theorem first_cos : StableHlo.after (hostOps0 (F := Ideal)) W main_v11 = (cosHost : FVec Ideal S1032x2048 .f32) := by unfold hostOps0; after_results
theorem first_sin : StableHlo.after (hostOps0 (F := Ideal)) W main_v23 = (sinHost : FVec Ideal S1024x2048 .f32) := by unfold hostOps0; after_results
theorem first_pick : StableHlo.after (hostOps0 (F := Ideal)) W main_v31 = (pickHost : IVec S1024x1024 1) := by unfold hostOps0; after_results
theorem first_one : StableHlo.after (hostOps0 (F := Ideal)) W main_cst_8 = (constant S_ .f32 0x3F800000#32 : FVec Ideal S_ .f32) := by
  unfold hostOps0; after_results
theorem first_zero : StableHlo.after (hostOps0 (F := Ideal)) W main_cst_9 = (constant S_ .f32 0x00000000#32 : FVec Ideal S_ .f32) := by
  unfold hostOps0; after_results

end Host

variable (m : (ℓ : Loc nD τ sig) → Buf (Elt Ideal) ℓ) (c : Dev nD)

/-- The host's three runs of operations one after another. -/
theorem V_eq (r : Ref sig .tc) :
    V m c r = StableHlo.after hostOps0_2 (StableHlo.after hostOps0_1 (StableHlo.after hostOps0 (fun b => m (c, b)))) r := by
  show StableHlo.after (List.flatten _) _ _ = _
  rw [List.flatten_cons, List.flatten_cons, List.flatten_cons, List.flatten_nil, List.append_nil, StableHlo.after_append, StableHlo.after_append]

theorem V_side : V m c main_v38 = (sideBySide (m ((c : Thread nD τ).loc main_arg0)) (m ((c : Thread nD τ).loc main_arg1)) : FVec Ideal S2x2048x4096 .bf16) := by
  rw [V_eq, last_side, mid_arg0, mid_arg1, first_arg0, first_arg1]

theorem V_cos : V m c main_v39 = (cosTable : FVec Ideal S1032x2048 .bf16) := by
  rw [V_eq, last_cos, mid_cos, first_cos]

theorem V_sin : V m c main_v40 = (sinTable : FVec Ideal S1024x2048 .bf16) := by
  rw [V_eq, last_sin, mid_sin, first_sin]

theorem V_perm : V m c main_v41 = (permTable : FVec Ideal S1024x1024 .bf16) := by
  rw [V_eq, last_perm, mid_perm, first_pick, first_one, first_zero]

end Cert.DftProof

end
-- ==== Proof.DftValue.lean ====
/-
  The transform kernel's array at one index, of the arguments; and the reference at the same index.
-/
module

public import proofs.«01_k».proof.Proof.DftArrays
public import proofs.«01_k».proof.Proof.Gen.DftRefIdeal.Read

@[expose] public section

set_option maxRecDepth 16384

noncomputable section

namespace Cert.DftProof

open Cert.Rows Cert.Circle Idealize.ShloMosaic Idealize.ShloMosaic.TcCoe Idealize.SL.Sem

section Kernel
open Cert.DftIdeal Cert.DftIdeal.Gen Cert.DftIdeal.Value

theorem hz2 : (![0, 0] : Fin 2 → Nat) = fun _ => 0 := by decide

/-! ## The four stores, one function -/

variable (x0 : FVec Ideal S2x2048x1024 .bf16) (x1 : FVec Ideal S1032x2048 .bf16) (x2 : FVec Ideal S1024x2048 .bf16)
  (x3 : FVec Ideal S1024x1024 .bf16)

/-- What the loads of the left and of the right half of the columns read. -/
theorem ld_left_re (n : Fin 2048) (l : Fin 512) : (View.ld (Val := Elt Ideal) (e' := .bf16) x0 r0_1 : FVec Ideal S1x2048x512 .bf16) (ix3 0 n l) = x0 (ix3 0 n ⟨l.val, by omega⟩) := by
  refine congrArg x0 (funext fun a => Fin.ext ?_)
  match a with
  | ⟨0, _⟩ => rfl
  | ⟨1, _⟩ => show 0 + 1 * n.val = n.val; omega
  | ⟨2, _⟩ => show 0 + 1 * l.val = l.val; omega
theorem ld_left_im (n : Fin 2048) (l : Fin 512) : (View.ld (Val := Elt Ideal) (e' := .bf16) x0 r0_3 : FVec Ideal S1x2048x512 .bf16) (ix3 0 n l) = x0 (ix3 1 n ⟨l.val, by omega⟩) := by
  refine congrArg x0 (funext fun a => Fin.ext ?_)
  match a with
  | ⟨0, _⟩ => rfl
  | ⟨1, _⟩ => show 0 + 1 * n.val = n.val; omega
  | ⟨2, _⟩ => show 0 + 1 * l.val = l.val; omega
theorem ld_right_re (n : Fin 2048) (l : Fin 512) : (View.ld (Val := Elt Ideal) (e' := .bf16) x0 r0_7 : FVec Ideal S1x2048x512 .bf16) (ix3 0 n l) = x0 (ix3 0 n ⟨512 + l.val, by omega⟩) := by
  refine congrArg x0 (funext fun a => Fin.ext ?_)
  match a with
  | ⟨0, _⟩ => rfl
  | ⟨1, _⟩ => show 0 + 1 * n.val = n.val; omega
  | ⟨2, _⟩ => show 512 + 1 * l.val = 512 + l.val; omega
theorem ld_right_im (n : Fin 2048) (l : Fin 512) : (View.ld (Val := Elt Ideal) (e' := .bf16) x0 r0_8 : FVec Ideal S1x2048x512 .bf16) (ix3 0 n l) = x0 (ix3 1 n ⟨512 + l.val, by omega⟩) := by
  refine congrArg x0 (funext fun a => Fin.ext ?_)
  match a with
  | ⟨0, _⟩ => rfl
  | ⟨1, _⟩ => show 0 + 1 * n.val = n.val; omega
  | ⟨2, _⟩ => show 512 + 1 * l.val = 512 + l.val; omega

/-- The block a point leaves. -/
abbrev outBlock : S2048x1024.Idx → EReal := fun y => dft (fun n => x0 (ix3 0 n (y 1))) (fun n => x0 (ix3 1 n (y 1))) (y 0).val

variable (hc : ∀ k x, x1 (ix2 k x) = (co k.val x.val : EReal)) (hs : ∀ k x, x2 (ix2 k x) = (si k.val x.val : EReal))
  (hp : ∀ k y, x3 (ix2 k y) = if 0 < k.val ∧ k.val + y.val = 1024 then (1 : EReal) else 0)
  (him : ∀ n l, ∃ r : ℝ, x0 (ix3 1 n l) = r)

include hc hs hp him in
theorem out_eq (y : S2048x1024.Idx) : out0_4 (F := Ideal) x0 x1 x2 x3 y = outBlock x0 y := by
  unfold out0_4
  rw [View.ld_unit_zero (S := S1032x2048) hz2, View.ld_unit_zero (S := S1024x2048) hz2, View.ld_unit_zero (S := S1024x1024) hz2]
  refine View.canon_apply_of_pieces (Val := Elt Ideal) (e := .bf16) (outBlock x0) _ (fun q hq => ?_) y (cover0_4 _ _ _ _ y)
  rcases List.mem_cons.mp hq with rfl | hq
  · intro i
    obtain ⟨k, l, rfl⟩ : ∃ (k : Fin 1024) (l : Fin 512), i = ix2 k l := ⟨i 0, i 1, eq_ix2 i⟩
    refine (pay4_apply _ _ _ _ _ k l).trans ((lower_eq _ _ _ _ _ hc hs hp (fun n l => ?_) k l).trans ?_)
    · exact (him n ⟨512 + l.val, by omega⟩).imp fun r h => (ld_right_im x0 n l).trans h
    · have e0 : (r0_10.emb (ix2 k l) 0).val = 1024 + k.val := by show 1024 + 1 * k.val = _; omega
      have e1 : r0_10.emb (ix2 k l) 1 = (⟨512 + l.val, by omega⟩ : Fin 1024) := Fin.ext (by show 512 + 1 * l.val = 512 + l.val; omega)
      show _ = dft _ _ _
      rw [e0, e1]
      exact congr (congrArg₂ dft (funext fun n => ld_right_re x0 n l) (funext fun n => ld_right_im x0 n l)) rfl
  rcases List.mem_cons.mp hq with rfl | hq
  · intro i
    obtain ⟨k, l, rfl⟩ : ∃ (k : Fin 1024) (l : Fin 512), i = ix2 k l := ⟨i 0, i 1, eq_ix2 i⟩
    refine (pay3_apply _ _ _ _ k l).trans ((upper_eq _ _ _ _ hc hs k l).trans ?_)
    have e0 : (r0_9.emb (ix2 k l) 0).val = k.val := by show 0 + 1 * k.val = _; omega
    have e1 : r0_9.emb (ix2 k l) 1 = (⟨512 + l.val, by omega⟩ : Fin 1024) := Fin.ext (by show 512 + 1 * l.val = 512 + l.val; omega)
    show _ = dft _ _ _
    rw [e0, e1]
    exact congr (congrArg₂ dft (funext fun n => ld_right_re x0 n l) (funext fun n => ld_right_im x0 n l)) rfl
  rcases List.mem_cons.mp hq with rfl | hq
  · intro i
    obtain ⟨k, l, rfl⟩ : ∃ (k : Fin 1024) (l : Fin 512), i = ix2 k l := ⟨i 0, i 1, eq_ix2 i⟩
    refine (pay8_apply _ _ _ _ _ k l).trans ((lower_eq _ _ _ _ _ hc hs hp (fun n l => ?_) k l).trans ?_)
    · exact (him n ⟨l.val, by omega⟩).imp fun r h => (ld_left_im x0 n l).trans h
    · have e0 : (r0_6.emb (ix2 k l) 0).val = 1024 + k.val := by show 1024 + 1 * k.val = _; omega
      have e1 : r0_6.emb (ix2 k l) 1 = (⟨l.val, by omega⟩ : Fin 1024) := Fin.ext (by show 0 + 1 * l.val = l.val; omega)
      show _ = dft _ _ _
      rw [e0, e1]
      exact congr (congrArg₂ dft (funext fun n => ld_left_re x0 n l) (funext fun n => ld_left_im x0 n l)) rfl
  rcases List.mem_cons.mp hq with rfl | hq
  · intro i
    obtain ⟨k, l, rfl⟩ : ∃ (k : Fin 1024) (l : Fin 512), i = ix2 k l := ⟨i 0, i 1, eq_ix2 i⟩
    refine (pay7_apply _ _ _ _ k l).trans ((upper_eq _ _ _ _ hc hs k l).trans ?_)
    have e0 : (r0_4.emb (ix2 k l) 0).val = k.val := by show 0 + 1 * k.val = _; omega
    have e1 : r0_4.emb (ix2 k l) 1 = (⟨l.val, by omega⟩ : Fin 1024) := Fin.ext (by show 0 + 1 * l.val = l.val; omega)
    show _ = dft _ _ _
    rw [e0, e1]
    exact congr (congrArg₂ dft (funext fun n => ld_left_re x0 n l) (funext fun n => ld_left_im x0 n l)) rfl
  · exact absurd hq List.not_mem_nil

/-! ## The array -/

/-- Every entry is a real number. -/
def IsReal (x : FVec Ideal S4x2048x1024 .f32) : Prop := ∀ i, ∃ r : ℝ, x i = (r : EReal)

variable (m : (ℓ : Loc nD τ sig) → Buf (Elt Ideal) ℓ) (c : Dev nD)

/-- **The kernel's array at an index**, where the second argument is real. -/
theorem kernel_at (him : IsReal (m ((c : Thread nD τ).loc main_arg1) : FVec Ideal S4x2048x1024 .f32))
    (k : Fin 2048) (b : Fin 4) (l : Fin 1024) :
    ((dats m 0 c).arrAt 4 cfg0.N : FVec Ideal S2048x4096 .bf16) (ix2 k ⟨b.val * 1024 + l.val, by omega⟩)
      = dft (fun n => (m ((c : Thread nD τ).loc main_arg0) : FVec Ideal S4x2048x1024 .f32) (ix3 b n l))
          (fun n => (m ((c : Thread nD τ).loc main_arg1) : FVec Ideal S4x2048x1024 .f32) (ix3 b n l)) k.val := by
  have hN : cfg0.N = 4 := N_0
  let t : Fin cfg0.N := ⟨b.val, by omega⟩
  have hre : ∀ n l, (iblk m c 0 t : FVec Ideal S2x2048x1024 .bf16) (ix3 0 n l)
      = (m ((c : Thread nD τ).loc main_arg0) : FVec Ideal S4x2048x1024 .f32) (ix3 b n l) := fun n l =>
    (blk_at0 t b rfl (V m c main_v38) 0 n l).trans ((congrFun (V_side m c) _).trans (side_re _ _ b n l))
  have him' : ∀ n l, (iblk m c 0 t : FVec Ideal S2x2048x1024 .bf16) (ix3 1 n l)
      = (m ((c : Thread nD τ).loc main_arg1) : FVec Ideal S4x2048x1024 .f32) (ix3 b n l) := fun n l =>
    (blk_at0 t b rfl (V m c main_v38) 1 n l).trans ((congrFun (V_side m c) _).trans (side_im _ _ b n l))
  have h := congrFun (blocks4 m c t (flush0_4 t)) (ix2 k l)
  have hi : (dats m 0 c).arrAt 4 cfg0.N (ix2 k ⟨b.val * 1024 + l.val, by omega⟩)
      = ((cfg0.win 4).blk t).view.read (Elt Ideal) ((dats m 0 c).arrAt 4 cfg0.N) (ix2 k l) := by
    generalize (dats m 0 c).arrAt 4 cfg0.N = A
    refine congrArg A (funext fun a => Fin.ext ?_)
    have := (index_facts t).2.2.2.2
    match a with
    | ⟨0, _⟩ => show k.val = win0_4.index t (0 : Fin 2) * 2048 + 1 * k.val; omega
    | ⟨1, _⟩ => show b.val * 1024 + l.val = win0_4.index t (1 : Fin 2) * 1024 + 1 * l.val; rw [this.2]; show b.val * 1024 + l.val = b.val * 1024 + 1 * l.val; omega
  rw [hi, h, flushed4]
  show out0_4 (F := Ideal) (iblk m c 0 t) (iblk m c 1 t) (iblk m c 2 t) (iblk m c 3 t) (ix2 k l) = _
  refine (out_eq _ _ _ _ (fun k n => (blk_at1 t (V m c main_v39) k n).trans ((congrFun (V_cos m c) _).trans (cosTable_apply k n)))
    (fun k n => (blk_at2 t (V m c main_v40) k n).trans ((congrFun (V_sin m c) _).trans (sinTable_apply k n)))
    (fun k n => (blk_at3 t (V m c main_v41) k n).trans ((congrFun (V_perm m c) _).trans (permTable_apply k n)))
    (fun n l => (him (ix3 b n l)).imp fun r e => (him' n l).trans e) (ix2 k l)).trans ?_
  exact congr (congrArg₂ dft (funext fun n => hre n l) (funext fun n => him' n l)) rfl

end Kernel

section Reference
open Cert.DftRefIdeal Cert.DftRefIdeal.Read

/-- Division by the reference's root is the kernel's scale. -/
theorem div_512 (a : EReal) : Ideal.div a (Ideal.sqrt (Ideal.ofBits .f32 1216348160#32)) = a * ((1 / 512 : ℝ) : EReal) := by
  rw [sqrt_262144, Ideal.div, if_neg (by exact_mod_cast (by norm_num : (512 : ℝ) ≠ 0)), ← EReal.coe_inv, one_div]

/-- **The reference at an index.** -/
theorem ref_at (re im : FVec Ideal S4x2048x1024 .f32) (k : Fin 2048) (b : Fin 4) (l : Fin 1024) :
    val_main_v18 (F := Ideal) re im (ix2 k ⟨b.val * 1024 + l.val, by omega⟩) = dft (fun n => re (ix3 b n l)) (fun n => im (ix3 b n l)) k.val := by
  have e : val_main_v18 (F := Ideal) re im (ix2 k ⟨b.val * 1024 + l.val, by omega⟩)
      = Ideal.div (∑ x : Fin 2048, Ideal.cos (FloatOps.sitofp (F := Ideal) FTy.f32 (IntOp.muli (BitVec.ofNat 32 k.val) (BitVec.ofNat 32 x.val)) * step) * re (ix3 b x l)
        + ∑ x : Fin 2048, Ideal.sin (FloatOps.sitofp (F := Ideal) FTy.f32 (IntOp.muli (BitVec.ofNat 32 k.val) (BitVec.ofNat 32 x.val)) * step) * im (ix3 b x l))
          (Ideal.sqrt (Ideal.ofBits .f32 1216348160#32)) := by
    pointwise [val_main_v18, val_main_v17, val_main_v16, val_main_v15, val_main_v14, val_main_v13, val_main_v12, val_main_v11, val_main_v10,
      val_main_v9, val_main_v8, val_main_v7, val_main_v6, val_main_v5, val_main_v4, val_main_v3, val_main_v2, val_main_v1, val_main_v0,
      val_main_cst, val_main_cst_0, val_main_cst_1, val_main_cst_2]
  rw [e, div_512]
  refine congrArg (· * ((1 / 512 : ℝ) : EReal)) (congrArg₂ (· + ·) (Finset.sum_congr rfl fun x _ => ?_) (Finset.sum_congr rfl fun x _ => ?_))
  · exact congrArg (· * re (ix3 b x l)) (cos_full _ _ (by nlinarith [k.isLt, x.isLt]))
  · exact congrArg (· * im (ix3 b x l)) (sin_full _ _ (by nlinarith [k.isLt, x.isLt]))

end Reference

end Cert.DftProof

end
-- ==== Proof.DftClaim.lean ====
/-
  The transform call's claims: the reference's frames, and that the kernel and the reference end with equal results wherever
  the second argument is finite.
-/
module

public import proofs.«01_k».proof.Defs
public import proofs.«01_k».proof.Proof.DftValue
public import proofs.«01_k».proof.Proof.Gen.DftIdeal
public import proofs.«01_k».proof.Proof.Gen.DftRefIdeal

@[expose] public section

noncomputable section

namespace Cert.DftProof

open Cert.Rows Idealize.ShloMosaic Idealize.ShloMosaic.TcCoe Idealize.SL.Sem

theorem frame_ref : Cert.quiescent_DftRefIdeal := fun m ρ _ =>
  (θ_run Cert.DftRefIdeal.defs _ _).mono (fun r h => ⟨fun c => (h c).2, sem_eq_zero_of_no_sems (by decide) r.2⟩)
    (Cert.DftRefIdeal.Value.run (F := Ideal) m ρ)

theorem ofBits_inf : Ideal.ofBits .f32 0x7F800000#32 = ⊤ := by
  simp [Ideal.ofBits, Ideal.ieee]

/-- What the precondition says of the second argument. -/
theorem real_of_pre [hPre : Cert.Pre_finite.Facts] (re im : FVec Ideal Cert.Pre_finite.S4x2048x1024 .f32)
    (h : Cert.Pre_finite.fn (F := Ideal) re im = fun _ => 1#1) : IsReal im := by
  intro i
  have hi : Ideal.cmp .olt (max (im i : EReal) (-im i)) (Ideal.ofBits .f32 0x7F800000#32) = 1#1 := congrFun h i
  rw [ofBits_inf] at hi
  generalize im i = x at hi ⊢
  induction x using EReal.rec with
  | bot => exact absurd hi (by simp [Ideal.cmp])
  | coe r => exact ⟨r, rfl⟩
  | top => exact absurd hi (by simp [Ideal.cmp])

theorem algebraic [hPre : Cert.Pre_finite.Facts] : Cert.algebraic_DftIdeal_DftRefIdeal_pre_finite := by
  intro m ρ m' ρ' hpre hagree
  refine ⟨fun c => (Cert.DftIdeal.Gen.dats m 0 c).arrAt 4 Cert.DftIdeal.cfg0.N, Cert.DftIdeal.Value.run_blocks (F := Ideal) m ρ, ?_⟩
  refine (θ_run Cert.DftRefIdeal.defs _ _).mono (fun _ h c => ?_) (Cert.DftRefIdeal.Value.run (F := Ideal) m' ρ')
  obtain ⟨h0, h1⟩ := hagree c
  refine ⟨(h c).1.trans ?_, (h c).2⟩
  rw [h0, h1]
  refine (Cert.DftRefIdeal.Read.val_main_v18_eq _ _).trans (funext fun i => ?_)
  obtain ⟨k, b, l, rfl⟩ : ∃ (k : Fin 2048) (b : Fin 4) (l : Fin 1024), i = ix2 k ⟨b.val * 1024 + l.val, by omega⟩ := by
    obtain ⟨k, q, rfl⟩ : ∃ (k : Fin 2048) (q : Fin 4096), i = ix2 k q := ⟨i 0, i 1, eq_ix2 i⟩
    exact ⟨k, ⟨q.val / 1024, by omega⟩, ⟨q.val % 1024, by omega⟩,
      congrArg (ix2 k) (Fin.ext (by show q.val = q.val / 1024 * 1024 + q.val % 1024; omega))⟩
  exact (ref_at _ _ k b l).trans (kernel_at m c (real_of_pre _ _ (hpre c)) k b l).symm

end Cert.DftProof

end
-- ==== Proof.MlpBody.lean ====
/-
  The MLP kernel's body at one index, at the ideal values: a reset point adds its block of the squared-relu product to
  the residual, a later point adds to what the point before left, and the last point normalises the rows.
-/
module

public import proofs.«01_k».proof.Proof.Gen.MlpIdeal.Value
public import proofs.«01_k».proof.Proof.Rows

@[expose] public section

noncomputable section

namespace Cert.MlpProof

open Cert.MlpIdeal Cert.MlpIdeal.Gen Cert.Rows Idealize.ShloMosaic Idealize.ShloMosaic.TcCoe Idealize.SL.Sem

/-- The residual is taken as it is. -/
theorem pay1_apply (y : FVec Ideal S512x2048 .f32) (i : S512x2048.Idx) : k0_pay1 (F := Ideal) y i = y i := by
  pointwise [k0_pay1]

/-- One point's step: what was there plus the point's 1024 hidden units times their rows of the second weight. -/
theorem pay2_apply (h : FVec Ideal S512x2048 .bf16) (wu : FVec Ideal S2048x1024 .bf16) (acc : FVec Ideal S512x2048 .f32)
    (wd : FVec Ideal S1024x2048 .bf16) (r : Fin 512) (l : Fin 2048) :
    k0_pay2 (F := Ideal) h wu acc wd (ix2 r l)
      = acc (ix2 r l) + ∑ f : Fin 1024, unit (fun k => h (ix2 r k)) (fun k => wu (ix2 k f)) * wd (ix2 f l) := by
  pointwise [k0_pay2]

/-- The last point's rows are normalised and scaled. -/
theorem pay3_apply (y : FVec Ideal S512x2048 .f32) (g : FVec Ideal S1x2048 .f32) (r : Fin 512) (l : Fin 2048) :
    k0_pay3 (F := Ideal) y g (ix2 r l) = rms (fun k => y (ix2 r k)) (fun k => g (ix2 0 k)) l := by
  pointwise [k0_pay3]

variable (m : (ℓ : Loc nD τ sig) → Buf (Elt Ideal) ℓ) (c : Dev nD)

/-! ## The arrays the windows read, in terms of the arguments -/

/-- A batch of rows, flattened, at an index. -/
theorem flat_apply (x : FVec Ideal S4x2048x2048 .f32) (R : Fin 8192) (k : Fin 2048) :
    shapeCast S8192x2048 x shapeCasts_S4x2048x2048_S8192x2048 (ix2 R k) = x (ix3 (bat R) (pos R) k) := by
  pointwise

/-- A vector as one row, at an index. -/
theorem row_apply (x : FVec Ideal S2048 .f32) (k : Fin 2048) :
    shapeCast S1x2048 x shapeCasts_S2048_S1x2048 (ix2 0 k) = x (ix1 k) := by
  pointwise

/-- The normalised input, flattened. -/
theorem h_apply (R : Fin 8192) (k : Fin 2048) :
    V m c main_v1 (ix2 R k) = (m ((c : Thread nD τ).loc main_arg0) : FVec Ideal S4x2048x2048 .f32) (ix3 (bat R) (pos R) k) := by
  have e : V m c main_v1 = (truncf .bf16 (shapeCast S8192x2048 (m ((c : Thread nD τ).loc main_arg0) : FVec Ideal S4x2048x2048 .f32)
      shapeCasts_S4x2048x2048_S8192x2048) bitsLt_bf16_f32 : FVec Ideal S8192x2048 .bf16) := by
    unfold V hostOps0; after_results; rfl
  exact (congrFun e _).trans (flat_apply _ R k)

/-- The first weight. -/
theorem wu_apply (i : S2048x8192.Idx) : V m c main_v2 i = (m ((c : Thread nD τ).loc main_arg2) : FVec Ideal S2048x8192 .f32) i := by
  have e : V m c main_v2 = (truncf .bf16 (m ((c : Thread nD τ).loc main_arg2) : FVec Ideal S2048x8192 .f32) bitsLt_bf16_f32 :
      FVec Ideal S2048x8192 .bf16) := by
    unfold V hostOps0; after_results
  exact congrFun e i

/-- The second weight. -/
theorem wd_apply (i : S8192x2048.Idx) : V m c main_v3 i = (m ((c : Thread nD τ).loc main_arg3) : FVec Ideal S8192x2048 .f32) i := by
  have e : V m c main_v3 = (truncf .bf16 (m ((c : Thread nD τ).loc main_arg3) : FVec Ideal S8192x2048 .f32) bitsLt_bf16_f32 :
      FVec Ideal S8192x2048 .bf16) := by
    unfold V hostOps0; after_results
  exact congrFun e i

/-- The residual, flattened. -/
theorem x_apply (R : Fin 8192) (k : Fin 2048) :
    V m c main_v4 (ix2 R k) = (m ((c : Thread nD τ).loc main_arg1) : FVec Ideal S4x2048x2048 .f32) (ix3 (bat R) (pos R) k) := by
  have e : V m c main_v4 = (shapeCast S8192x2048 (m ((c : Thread nD τ).loc main_arg1) : FVec Ideal S4x2048x2048 .f32)
      shapeCasts_S4x2048x2048_S8192x2048 : FVec Ideal S8192x2048 .f32) := by
    unfold V hostOps0; after_results; rfl
  exact (congrFun e _).trans (flat_apply _ R k)

/-- The gain, as one row. -/
theorem g_apply (k : Fin 2048) : V m c main_v5 (ix2 0 k) = (m ((c : Thread nD τ).loc main_arg4) : FVec Ideal S2048 .f32) (ix1 k) := by
  have e : V m c main_v5 = (shapeCast S1x2048 (m ((c : Thread nD τ).loc main_arg4) : FVec Ideal S2048 .f32) shapeCasts_S2048_S1x2048 :
      FVec Ideal S1x2048 .f32) := by
    unfold V hostOps0; after_results; rfl
  exact (congrFun e _).trans (row_apply _ k)

/-! ## The windows' blocks: 16 row blocks of 512, 8 blocks of hidden units of 1024 -/

/-- Where each window's block lies at each point. -/
theorem index_facts : ∀ t : Fin cfg0.N,
    (win0_0.index t (0 : Fin 2) = t.val / 8 ∧ win0_0.index t (1 : Fin 2) = 0)
    ∧ (win0_1.index t (0 : Fin 2) = 0 ∧ win0_1.index t (1 : Fin 2) = t.val % 8)
    ∧ (win0_2.index t (0 : Fin 2) = t.val % 8 ∧ win0_2.index t (1 : Fin 2) = 0)
    ∧ (win0_3.index t (0 : Fin 2) = t.val / 8 ∧ win0_3.index t (1 : Fin 2) = 0)
    ∧ (win0_4.index t (0 : Fin 2) = 0 ∧ win0_4.index t (1 : Fin 2) = 0) :=
  (by decide +kernel : ∀ t : Fin grid0.N, _)

variable (t : Fin cfg0.N)

theorem blk0 (p : Fin 512) (k : Fin 2048) (R : Fin 8192) (hR : R.val = t.val / 8 * 512 + p.val) :
    (iblk m c 0 t : FVec Ideal S512x2048 .bf16) (ix2 p k) = V m c main_v1 (ix2 R k) := by
  refine congrArg (V m c main_v1) (funext fun a => Fin.ext ?_)
  have := (index_facts t).1
  match a with
  | ⟨0, _⟩ => show win0_0.index t (0 : Fin 2) * 512 + 1 * p.val = R.val; omega
  | ⟨1, _⟩ => show win0_0.index t (1 : Fin 2) * 2048 + 1 * k.val = k.val; omega

theorem blk1 (k : Fin 2048) (f : Fin 1024) (f' : Fin 8192) (hf : f'.val = t.val % 8 * 1024 + f.val) :
    (iblk m c 1 t : FVec Ideal S2048x1024 .bf16) (ix2 k f) = V m c main_v2 (ix2 k f') := by
  refine congrArg (V m c main_v2) (funext fun a => Fin.ext ?_)
  have := (index_facts t).2.1
  match a with
  | ⟨0, _⟩ => show win0_1.index t (0 : Fin 2) * 2048 + 1 * k.val = k.val; omega
  | ⟨1, _⟩ => show win0_1.index t (1 : Fin 2) * 1024 + 1 * f.val = f'.val; omega

theorem blk2 (f : Fin 1024) (k : Fin 2048) (f' : Fin 8192) (hf : f'.val = t.val % 8 * 1024 + f.val) :
    (iblk m c 2 t : FVec Ideal S1024x2048 .bf16) (ix2 f k) = V m c main_v3 (ix2 f' k) := by
  refine congrArg (V m c main_v3) (funext fun a => Fin.ext ?_)
  have := (index_facts t).2.2.1
  match a with
  | ⟨0, _⟩ => show win0_2.index t (0 : Fin 2) * 1024 + 1 * f.val = f'.val; omega
  | ⟨1, _⟩ => show win0_2.index t (1 : Fin 2) * 2048 + 1 * k.val = k.val; omega

theorem blk3 (p : Fin 512) (k : Fin 2048) (R : Fin 8192) (hR : R.val = t.val / 8 * 512 + p.val) :
    (iblk m c 3 t : FVec Ideal S512x2048 .f32) (ix2 p k) = V m c main_v4 (ix2 R k) := by
  refine congrArg (V m c main_v4) (funext fun a => Fin.ext ?_)
  have := (index_facts t).2.2.2.1
  match a with
  | ⟨0, _⟩ => show win0_3.index t (0 : Fin 2) * 512 + 1 * p.val = R.val; omega
  | ⟨1, _⟩ => show win0_3.index t (1 : Fin 2) * 2048 + 1 * k.val = k.val; omega

theorem blk4 (k : Fin 2048) :
    (iblk m c 4 t : FVec Ideal S1x2048 .f32) (ix2 0 k) = V m c main_v5 (ix2 0 k) := by
  refine congrArg (V m c main_v5) (funext fun a => Fin.ext ?_)
  have := (index_facts t).2.2.2.2
  match a with
  | ⟨0, _⟩ => show win0_4.index t (0 : Fin 2) * 1 + 1 * 0 = 0; omega
  | ⟨1, _⟩ => show win0_4.index t (1 : Fin 2) * 2048 + 1 * k.val = k.val; omega

end Cert.MlpProof

end
-- ==== Proof.MlpValue.lean ====
/-
  The MLP kernel's array at one index: a run of eight points is the residual plus all 8192 hidden units, normalised; and
  the reference at the same index. The two agree.
-/
module

public import proofs.«01_k».proof.Proof.MlpBody
public import proofs.«01_k».proof.Proof.Gen.MlpRefIdeal.Read

@[expose] public section

noncomputable section

namespace Cert.MlpProof

open Cert.Rows Idealize.ShloMosaic Idealize.ShloMosaic.TcCoe Idealize.SL.Sem

/-- The MLP of one row before its norm: the residual plus the hidden units times the second weight. -/
def mlp (x h : Fin 2048 → EReal) (wu : Fin 2048 → Fin 8192 → EReal) (wd : Fin 8192 → Fin 2048 → EReal) (l : Fin 2048) : EReal :=
  x l + ∑ f : Fin 8192, unit h (fun k => wu k f) * wd f l

section Kernel
open Cert.MlpIdeal Cert.MlpIdeal.Gen Cert.MlpIdeal.Value

variable (m : (ℓ : Loc nD τ sig) → Buf (Elt Ideal) ℓ) (c : Dev nD)

/-- What point `n` adds at an index of its block. -/
def part (n : ℕ) (i : S512x2048.Idx) : EReal :=
  if h : n < cfg0.N then
    ∑ f : Fin 1024, unit (fun k => (iblk m c 0 ⟨n, h⟩ : FVec Ideal S512x2048 .bf16) (ix2 (i 0) k))
      (fun k => (iblk m c 1 ⟨n, h⟩ : FVec Ideal S2048x1024 .bf16) (ix2 k f)) * (iblk m c 2 ⟨n, h⟩ : FVec Ideal S1024x2048 .bf16) (ix2 f (i 1))
  else 0

/-- A step is what was there plus the point's part. -/
theorem pay2_part (n : ℕ) (h : n < cfg0.N) (acc : FVec Ideal S512x2048 .f32) (i : S512x2048.Idx) :
    k0_pay2 (F := Ideal) (iblk m c 0 ⟨n, h⟩) (iblk m c 1 ⟨n, h⟩) acc (iblk m c 2 ⟨n, h⟩) i = acc i + part m c n i := by
  obtain ⟨r, l, rfl⟩ : ∃ r l, i = ix2 r l := ⟨i 0, i 1, eq_ix2 i⟩
  rw [part, dif_pos h]
  exact pay2_apply _ _ _ _ _ _

theorem part_apply (n : ℕ) (h : n < cfg0.N) (p : Fin 512) (l : Fin 2048) :
    part m c n (ix2 p l) = ∑ f : Fin 1024, unit (fun k => (iblk m c 0 ⟨n, h⟩ : FVec Ideal S512x2048 .bf16) (ix2 p k))
      (fun k => (iblk m c 1 ⟨n, h⟩ : FVec Ideal S2048x1024 .bf16) (ix2 k f)) * (iblk m c 2 ⟨n, h⟩ : FVec Ideal S1024x2048 .bf16) (ix2 f l) := by
  rw [part, dif_pos h]; rfl

/-- What the run of point `n` starts from: the residual's block. -/
def start (n : ℕ) (i : S512x2048.Idx) : EReal :=
  if h : n < cfg0.N then (iblk m c 3 ⟨n, h⟩ : FVec Ideal S512x2048 .f32) i else 0

/-- Before the last point, the run holds the residual and the parts so far. -/
theorem acc_apply (q : ℕ) (j : ℕ) (hj : j ≤ 6) (h : 8 * q + j < cfg0.N) (i : S512x2048.Idx) :
    Pipeline.accAt (reset5 m c) (step5 m c) (8 * q) j h i
      = start m c (8 * q) i + ∑ s ∈ Finset.range (j + 1), part m c (8 * q + s) i := by
  refine Pipeline.accAt_add_apply (β := EReal) (reset5 m c) (step5 m c) (start m c (8 * q))
    (part m c) (8 * q) 6 (fun h i => ?_) (fun n h acc i h0 h1 => ?_) j hj h i
  · unfold reset5
    rw [pay2_part, pay1_apply, start, dif_pos]
  · unfold step5
    rw [if_pos (by omega), pay2_part]

/-- Eight points' parts at one index: all the hidden units of the index's row. -/
theorem parts_eq (q : ℕ) (hq : 8 * q + 7 < cfg0.N) (R : Fin 8192) (p : Fin 512) (hR : R.val = q * 512 + p.val) (l : Fin 2048) :
    ∑ s ∈ Finset.range 8, part m c (8 * q + s) (ix2 p l)
      = ∑ f : Fin 8192, unit (fun k => V m c main_v1 (ix2 R k)) (fun k => V m c main_v2 (ix2 k f)) * V m c main_v3 (ix2 f l) := by
  rw [Finset.sum_range, Fin.sum_univ_tiles (N := 8192) 8 1024 rfl]
  refine Finset.sum_congr rfl fun s _ => ?_
  have hs := s.isLt
  rw [part_apply m c _ (by omega)]
  refine Finset.sum_congr rfl fun f _ => ?_
  have e0 : ∀ k, (iblk m c 0 ⟨8 * q + s.val, by omega⟩ : FVec Ideal S512x2048 .bf16) (ix2 p k) = V m c main_v1 (ix2 R k) :=
    fun k => blk0 m c _ p k R (by show R.val = (8 * q + s.val) / 8 * 512 + p.val; omega)
  have e1 : ∀ k, (iblk m c 1 ⟨8 * q + s.val, by omega⟩ : FVec Ideal S2048x1024 .bf16) (ix2 k f) = V m c main_v2 (ix2 k ⟨s.val * 1024 + f.val, by omega⟩) :=
    fun k => blk1 m c _ k f _ (by show s.val * 1024 + f.val = (8 * q + s.val) % 8 * 1024 + f.val; omega)
  have e2 : (iblk m c 2 ⟨8 * q + s.val, by omega⟩ : FVec Ideal S1024x2048 .bf16) (ix2 f l) = V m c main_v3 (ix2 ⟨s.val * 1024 + f.val, by omega⟩ l) :=
    blk2 m c _ f l _ (by show s.val * 1024 + f.val = (8 * q + s.val) % 8 * 1024 + f.val; omega)
  simp only [e0, e1, e2]

/-- **The kernel's array at an index.** -/
theorem kernel_apply (R : Fin 8192) (l : Fin 2048) :
    G5 m c (ix2 R l)
      = rms (mlp (fun k => V m c main_v4 (ix2 R k)) (fun k => V m c main_v1 (ix2 R k)) (fun k f => V m c main_v2 (ix2 k f))
          (fun f k => V m c main_v3 (ix2 f k))) (fun k => V m c main_v5 (ix2 0 k)) l := by
  have hR := R.isLt
  have hl := l.isLt
  have hN : cfg0.N = 128 := N_0
  have hrun : run5Of (ix2 R l) = R.val / 512 := by
    show 1 * (R.val / 512 - 0) + 1 * (l.val / 2048 - 0) = R.val / 512
    omega
  have hloc : loc5Of (ix2 R l) = ix2 ⟨R.val % 512, by omega⟩ l := by
    funext a; apply Fin.ext
    match a with
    | ⟨0, _⟩ => rfl
    | ⟨1, _⟩ => show l.val % 2048 = l.val; omega
  have h7 : 8 * (R.val / 512) + 7 < cfg0.N := by omega
  have hb : ∀ (b : ℕ) (h : b + 7 < cfg0.N), b = 8 * (R.val / 512) → Pipeline.accAt (reset5 m c) (step5 m c) b 7 h
      = Pipeline.accAt (reset5 m c) (step5 m c) (8 * (R.val / 512)) 7 h7 := by
    rintro _ _ rfl; rfl
  unfold G5
  rw [dif_pos (by rw [hrun]; exact h7), hloc, hb _ _ (by rw [hrun]), Pipeline.accAt_succ, step5, if_neg (by omega), if_pos (by omega), pay3_apply]
  have row : ∀ k : Fin 2048, k0_pay2 (F := Ideal) (iblk m c 0 ⟨8 * (R.val / 512) + (6 + 1), h7⟩) (iblk m c 1 ⟨8 * (R.val / 512) + (6 + 1), h7⟩)
      (Pipeline.accAt (reset5 m c) (step5 m c) (8 * (R.val / 512)) 6 (Nat.lt_of_succ_lt h7)) (iblk m c 2 ⟨8 * (R.val / 512) + (6 + 1), h7⟩)
      (ix2 ⟨R.val % 512, by omega⟩ k)
      = mlp (fun k => V m c main_v4 (ix2 R k)) (fun k => V m c main_v1 (ix2 R k)) (fun k f => V m c main_v2 (ix2 k f))
          (fun f k => V m c main_v3 (ix2 f k)) k := by
    intro k
    rw [pay2_part, acc_apply m c _ 6 le_rfl, add_assoc, ← Finset.sum_range_succ (fun s => part m c (8 * (R.val / 512) + s) _) 7,
      parts_eq m c (R.val / 512) h7 R ⟨R.val % 512, by omega⟩ (by show R.val = R.val / 512 * 512 + R.val % 512; omega) k, start, dif_pos (by omega : 8 * (R.val / 512) < cfg0.N),
      blk3 m c _ _ k R (by show R.val = 8 * (R.val / 512) / 8 * 512 + R.val % 512; omega)]
    rfl
  simp only [row, blk4]

/-- The kernel's array at an index, of the arguments. -/
theorem kernel_args (R : Fin 8192) (l : Fin 2048) :
    G5 m c (ix2 R l)
      = rms (mlp (fun k => (m ((c : Thread nD τ).loc main_arg1) : FVec Ideal S4x2048x2048 .f32) (ix3 (bat R) (pos R) k))
          (fun k => (m ((c : Thread nD τ).loc main_arg0) : FVec Ideal S4x2048x2048 .f32) (ix3 (bat R) (pos R) k))
          (fun k f => (m ((c : Thread nD τ).loc main_arg2) : FVec Ideal S2048x8192 .f32) (ix2 k f))
          (fun f k => (m ((c : Thread nD τ).loc main_arg3) : FVec Ideal S8192x2048 .f32) (ix2 f k)))
          (fun k => (m ((c : Thread nD τ).loc main_arg4) : FVec Ideal S2048 .f32) (ix1 k)) l := by
  refine (kernel_apply m c R l).trans (congrArg₂ (fun a b => rms a b l) ?_ (funext fun k => g_apply m c k))
  exact congr (congr (congrArg₂ mlp (funext fun k => x_apply m c R k) (funext fun k => h_apply m c R k))
    (funext fun k => funext fun f => wu_apply m c (ix2 k f))) (funext fun f => funext fun k => wd_apply m c (ix2 f k))

end Kernel

section Reference
open Cert.MlpRefIdeal Cert.MlpRefIdeal.Read

/-- **The reference at an index.** -/
theorem ref_apply (h x : FVec Ideal S4x2048x2048 .f32) (wu : FVec Ideal S2048x8192 .f32) (wd : FVec Ideal S8192x2048 .f32)
    (g : FVec Ideal S2048 .f32) (R : Fin 8192) (l : Fin 2048) :
    val_main_v18 (F := Ideal) h x wu wd g (ix2 R l)
      = rms (mlp (fun k => x (ix3 (bat R) (pos R) k)) (fun k => h (ix3 (bat R) (pos R) k)) (fun k f => wu (ix2 k f)) (fun f k => wd (ix2 f k)))
          (fun k => g (ix1 k)) l := by
  pointwise [val_main_v18, val_main_v17, val_main_v16, val_main_v15, val_main_v14, val_main_v13, val_main_v12, val_main_v11,
    val_main_v10, val_main_v9, val_main_v8, val_main_v7, val_main_v6, val_main_v5, val_main_v4, val_main_v3, val_main_v2,
    val_main_v1, val_main_v0, val_main_cst, val_main_cst_0, val_main_cst_1, val_main_call0_v0, val_main_call0_cst]
  rfl

end Reference

end Cert.MlpProof

end
-- ==== Proof.MlpClaim.lean ====
/-
  The MLP call's claims: the reference's frame, and that the kernel and the reference end with equal results.
-/
module

public import proofs.«01_k».proof.Defs
public import proofs.«01_k».proof.Proof.MlpValue
public import proofs.«01_k».proof.Proof.Gen.MlpIdeal
public import proofs.«01_k».proof.Proof.Gen.MlpRefIdeal

@[expose] public section

noncomputable section

namespace Cert.MlpProof

open Cert.Rows Idealize.ShloMosaic Idealize.ShloMosaic.TcCoe Idealize.SL.Sem

theorem frame_ref : Cert.quiescent_MlpRefIdeal := fun m ρ _ =>
  (θ_run Cert.MlpRefIdeal.defs _ _).mono (fun r h => ⟨fun c => (h c).2, sem_eq_zero_of_no_sems (by decide) r.2⟩)
    (Cert.MlpRefIdeal.Value.run (F := Ideal) m ρ)

theorem algebraic : Cert.algebraic_MlpIdeal_MlpRefIdeal := by
  intro m ρ m' ρ' _ hagree
  refine ⟨fun c => Cert.MlpIdeal.Value.G5 m c, Cert.MlpIdeal.Value.run (F := Ideal) m ρ, ?_⟩
  refine (θ_run Cert.MlpRefIdeal.defs _ _).mono (fun _ h c => ?_) (Cert.MlpRefIdeal.Value.run (F := Ideal) m' ρ')
  refine ⟨(h c).1.trans ?_, (h c).2⟩
  obtain ⟨h0, h1, h2, h3, h4⟩ := hagree c
  rw [h0, h1, h2, h3, h4]
  refine (Cert.MlpRefIdeal.Read.val_main_v18_eq _ _ _ _ _).trans (funext fun i => ?_)
  obtain ⟨R, l, rfl⟩ : ∃ (R : Fin 8192) (l : Fin 2048), i = ix2 R l := ⟨i 0, i 1, eq_ix2 i⟩
  refine (ref_apply _ _ _ _ _ R l).trans (kernel_args m c R l).symm

end Cert.MlpProof

end
-- ==== Proof.MergeBody.lean ====
/-
  The merging kernel's body at one index, at the ideal values, the arrays its windows read, and the windows' blocks: 32
  blocks of 256 rows, whose batch entry is the point over 8.
-/
module

public import proofs.«01_k».proof.Proof.Gen.MergeIdeal.Value
public import proofs.«01_k».proof.Proof.Rows

@[expose] public section

noncomputable section

namespace Cert.MergeProof

open Cert.Rows Idealize.ShloMosaic Idealize.ShloMosaic.TcCoe Idealize.SL.Sem

/-- The logistic function. -/
abbrev gate (z : EReal) : EReal := Ideal.div 1 (1 + Ideal.exp (0 - z))

/-- The two branches of one row, each projected up and gated. -/
abbrev mix (o fr : Fin 1024 → EReal) (za zf : Fin 2048 → EReal) (wa wf : Fin 1024 → Fin 2048 → EReal) (k : Fin 2048) : EReal :=
  gate (za k) * (∑ j, o j * wa j k) + gate (zf k) * (∑ j, fr j * wf j k)

/-- The row with the gated branches, projected, added. -/
abbrev merged (x y : Fin 2048 → EReal) (wo : Fin 2048 → Fin 2048 → EReal) (l : Fin 2048) : EReal := x l + ∑ k, y k * wo k l

open Cert.MergeIdeal Cert.MergeIdeal.Gen

/-- The gated sum of the two branches. -/
theorem pay4_apply (o : FVec Ideal S256x1024 .bf16) (wa : FVec Ideal S1024x2048 .bf16) (fr : FVec Ideal S256x1024 .bf16)
    (wf : FVec Ideal S1024x2048 .bf16) (za zf : FVec Ideal S256x2048 .f32) (r : Fin 256) (k : Fin 2048) :
    k0_pay4 (F := Ideal) o wa fr wf za zf (ix2 r k)
      = mix (fun j => o (ix2 r j)) (fun j => fr (ix2 r j)) (fun k => za (ix2 r k)) (fun k => zf (ix2 r k))
          (fun j k => wa (ix2 j k)) (fun j k => wf (ix2 j k)) k := by
  pointwise [k0_pay4]

/-- The residual with the projected branches added. -/
theorem pay1_apply (x : FVec Ideal S256x2048 .f32) (y : FVec Ideal S256x2048 .bf16) (wo : FVec Ideal S2048x2048 .bf16) (r : Fin 256)
    (l : Fin 2048) :
    k0_pay1 (F := Ideal) (k0_pay3 x) y wo (ix2 r l)
      = merged (fun k => x (ix2 r k)) (fun k => y (ix2 r k)) (fun k l => wo (ix2 k l)) l := by
  pointwise [k0_pay1, k0_pay3]

/-- … and its rows normalised. -/
theorem pay2_apply (x : FVec Ideal S256x2048 .f32) (y : FVec Ideal S256x2048 .bf16) (wo : FVec Ideal S2048x2048 .bf16)
    (g : FVec Ideal S1x2048 .f32) (r : Fin 256) (l : Fin 2048) :
    k0_pay2 (F := Ideal) (k0_pay3 x) y wo g (ix2 r l)
      = rms (merged (fun k => x (ix2 r k)) (fun k => y (ix2 r k)) (fun k l => wo (ix2 k l))) (fun k => g (ix2 0 k)) l := by
  pointwise [k0_pay2, k0_pay1, k0_pay3]

variable (m : (ℓ : Loc nD τ sig) → Buf (Elt Ideal) ℓ) (c : Dev nD)

/-! ## The arrays the windows read, in terms of the arguments -/

/-- A batch of rows, flattened, at an index. -/
theorem flat1024_apply (x : FVec Ideal S4x2048x1024 .f32) (R : Fin 8192) (k : Fin 1024) :
    shapeCast S8192x1024 x shapeCasts_S4x2048x1024_S8192x1024 (ix2 R k) = x (ix3 (bat R) (pos R) k) := by
  pointwise

theorem flat2048_apply (x : FVec Ideal S4x2048x2048 .f32) (R : Fin 8192) (k : Fin 2048) :
    shapeCast S8192x2048 x shapeCasts_S4x2048x2048_S8192x2048 (ix2 R k) = x (ix3 (bat R) (pos R) k) := by
  pointwise

/-- The positions' rows of all batch entries side by side, at an index. -/
theorem side_apply (x : FVec Ideal S4x2048x1024 .f32) (t : Fin 2048) (b : Fin 4) (k : Fin 1024) :
    shapeCast S2048x4096 (transpose S2048x4x1024 [1, 0, 2] x transposes_S4x2048x1024_S2048x4x1024_1_0_2)
      shapeCasts_S2048x4x1024_S2048x4096 (ix2 t ⟨b.val * 1024 + k.val, by omega⟩) = x (ix3 b t k) := by
  pointwise

/-- The projection with its gates brought in front, flattened. -/
abbrev ordered (x : FVec Ideal S4x2048x9248 .f32) : FVec Ideal S8192x9216 .f32 :=
  shapeCast S8192x9216 (concatenate S4x2048x9216 2 [⟨S4x2048x4096, extractStridedSlice S4x2048x4096 ![0, 0, 5152] x slices_S4x2048x9248_S4x2048x4096_0_0_5152⟩,
    ⟨S4x2048x5120, extractStridedSlice S4x2048x5120 ![0, 0, 0] x slices_S4x2048x9248_S4x2048x5120_0_0_0⟩] concatenates_S4x2048x4096_S4x2048x5120_S4x2048x9216_d2)
    shapeCasts_S4x2048x9216_S8192x9216

/-- Its first 4096 columns are the gates. -/
theorem ordered_apply (x : FVec Ideal S4x2048x9248 .f32) (R : Fin 8192) (k : Fin 4096) :
    ordered x (ix2 R ⟨k.val, by omega⟩) = x (ix3 (bat R) (pos R) ⟨5152 + k.val, by omega⟩) := by
  pointwise

/-- A vector as one row, at an index. -/
theorem row_apply (x : FVec Ideal S2048 .f32) (k : Fin 2048) :
    shapeCast S1x2048 x shapeCasts_S2048_S1x2048 (ix2 0 k) = x (ix1 k) := by
  pointwise

/-- The first branch's rows. -/
theorem o_apply (R : Fin 8192) (k : Fin 1024) :
    V m c main_v4 (ix2 R k) = (m ((c : Thread nD τ).loc main_arg0) : FVec Ideal S4x2048x1024 .f32) (ix3 (bat R) (pos R) k) := by
  have e : V m c main_v4 = (truncf .bf16 (shapeCast S8192x1024 (m ((c : Thread nD τ).loc main_arg0) : FVec Ideal S4x2048x1024 .f32) shapeCasts_S4x2048x1024_S8192x1024) bitsLt_bf16_f32 : FVec Ideal S8192x1024 .bf16) := by
    unfold V hostOps0; after_results; rfl
  exact (congrFun e _).trans (flat1024_apply _ R k)

/-- The second branch's rows, the batch entries side by side. -/
theorem fr_apply (t : Fin 2048) (b : Fin 4) (k : Fin 1024) :
    V m c main_v7 (ix2 t ⟨b.val * 1024 + k.val, by omega⟩) = (m ((c : Thread nD τ).loc main_arg1) : FVec Ideal S4x2048x1024 .f32) (ix3 b t k) := by
  have e : V m c main_v7 = (truncf .bf16 (shapeCast S2048x4096 (transpose S2048x4x1024 [1, 0, 2] (m ((c : Thread nD τ).loc main_arg1) : FVec Ideal S4x2048x1024 .f32) transposes_S4x2048x1024_S2048x4x1024_1_0_2) shapeCasts_S2048x4x1024_S2048x4096) bitsLt_bf16_f32 : FVec Ideal S2048x4096 .bf16) := by
    unfold V hostOps0; after_results; rfl
  exact (congrFun e _).trans (side_apply _ t b k)

/-- The gates' columns. -/
theorem z_apply (R : Fin 8192) (k : Fin 4096) :
    V m c main_v8 (ix2 R ⟨k.val, by omega⟩) = (m ((c : Thread nD τ).loc main_arg2) : FVec Ideal S4x2048x9248 .f32) (ix3 (bat R) (pos R) ⟨5152 + k.val, by omega⟩) := by
  have e : V m c main_v8 = (ordered (m ((c : Thread nD τ).loc main_arg2) : FVec Ideal S4x2048x9248 .f32) : FVec Ideal S8192x9216 .f32) := by
    unfold V hostOps0; after_results; rfl
  exact (congrFun e _).trans (ordered_apply _ R k)

/-- The residual's rows. -/
theorem x_apply (R : Fin 8192) (k : Fin 2048) :
    V m c main_v9 (ix2 R k) = (m ((c : Thread nD τ).loc main_arg3) : FVec Ideal S4x2048x2048 .f32) (ix3 (bat R) (pos R) k) := by
  have e : V m c main_v9 = (shapeCast S8192x2048 (m ((c : Thread nD τ).loc main_arg3) : FVec Ideal S4x2048x2048 .f32) shapeCasts_S4x2048x2048_S8192x2048 : FVec Ideal S8192x2048 .f32) := by
    unfold V hostOps0; after_results; rfl
  exact (congrFun e _).trans (flat2048_apply _ R k)

/-- The first branch's weight. -/
theorem wa_apply (i : S1024x2048.Idx) :
    V m c main_v10 i = (m ((c : Thread nD τ).loc main_arg4) : FVec Ideal S1024x2048 .f32) i := by
  have e : V m c main_v10 = (truncf .bf16 (m ((c : Thread nD τ).loc main_arg4) : FVec Ideal S1024x2048 .f32) bitsLt_bf16_f32 : FVec Ideal S1024x2048 .bf16) := by
    unfold V hostOps0; after_results
  exact congrFun e i

/-- The second branch's weight. -/
theorem wf_apply (i : S1024x2048.Idx) :
    V m c main_v11 i = (m ((c : Thread nD τ).loc main_arg5) : FVec Ideal S1024x2048 .f32) i := by
  have e : V m c main_v11 = (truncf .bf16 (m ((c : Thread nD τ).loc main_arg5) : FVec Ideal S1024x2048 .f32) bitsLt_bf16_f32 : FVec Ideal S1024x2048 .bf16) := by
    unfold V hostOps0; after_results
  exact congrFun e i

/-- The last weight. -/
theorem wo_apply (i : S2048x2048.Idx) :
    V m c main_v12 i = (m ((c : Thread nD τ).loc main_arg6) : FVec Ideal S2048x2048 .f32) i := by
  have e : V m c main_v12 = (truncf .bf16 (m ((c : Thread nD τ).loc main_arg6) : FVec Ideal S2048x2048 .f32) bitsLt_bf16_f32 : FVec Ideal S2048x2048 .bf16) := by
    unfold V hostOps0; after_results
  exact congrFun e i

/-- The gain, as one row. -/
theorem g_apply (k : Fin 2048) :
    V m c main_v13 (ix2 0 k) = (m ((c : Thread nD τ).loc main_arg7) : FVec Ideal S2048 .f32) (ix1 k) := by
  have e : V m c main_v13 = (shapeCast S1x2048 (m ((c : Thread nD τ).loc main_arg7) : FVec Ideal S2048 .f32) shapeCasts_S2048_S1x2048 : FVec Ideal S1x2048 .f32) := by
    unfold V hostOps0; after_results; rfl
  exact (congrFun e _).trans (row_apply _ k)

/-! ## The windows' blocks -/

/-- Where each window's block lies at each point. -/
theorem index_facts : ∀ t : Fin cfg0.N,
    (win0_0.index t (0 : Fin 2) = t.val ∧ win0_0.index t (1 : Fin 2) = 0)
    ∧ (win0_1.index t (0 : Fin 2) = t.val % 8 ∧ win0_1.index t (1 : Fin 2) = t.val / 8)
    ∧ (win0_2.index t (0 : Fin 2) = t.val ∧ win0_2.index t (1 : Fin 2) = 0)
    ∧ (win0_3.index t (0 : Fin 2) = t.val ∧ win0_3.index t (1 : Fin 2) = 1)
    ∧ (win0_4.index t (0 : Fin 2) = t.val ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = t.val ∧ win0_9.index t (1 : Fin 2) = 0)
    ∧ (win0_10.index t (0 : Fin 2) = t.val ∧ win0_10.index t (1 : Fin 2) = 0) :=
  (by decide +kernel : ∀ t : Fin grid0.N, _)

variable (t : Fin cfg0.N) (p : Fin 256) (R : Fin 8192) (hR : R.val = t.val * 256 + p.val)

include hR in
theorem blk0 (k : Fin 1024) : (iblk m c 0 t : FVec Ideal S256x1024 .bf16) (ix2 p k) = V m c main_v4 (ix2 R k) := by
  refine congrArg (V m c main_v4) (funext fun a => Fin.ext ?_)
  have := (index_facts t).1
  match a with
  | ⟨0, _⟩ => show win0_0.index t (0 : Fin 2) * 256 + 1 * p.val = R.val; omega
  | ⟨1, _⟩ => show win0_0.index t (1 : Fin 2) * 1024 + 1 * k.val = k.val; omega

include hR in
theorem blk1 (k : Fin 1024) :
    (iblk m c 1 t : FVec Ideal S256x1024 .bf16) (ix2 p k) = V m c main_v7 (ix2 (pos R) ⟨(bat R).val * 1024 + k.val, by omega⟩) := by
  refine congrArg (V m c main_v7) (funext fun a => Fin.ext ?_)
  have := (index_facts t).2.1
  match a with
  | ⟨0, _⟩ => show win0_1.index t (0 : Fin 2) * 256 + 1 * p.val = R.val % 2048; omega
  | ⟨1, _⟩ => show win0_1.index t (1 : Fin 2) * 1024 + 1 * k.val = R.val / 2048 * 1024 + k.val; omega

include hR in
theorem blk2 (k : Fin 2048) : (X0_2 m c t : FVec Ideal S256x2048 .f32) (ix2 p k) = V m c main_v8 (ix2 R ⟨k.val, by omega⟩) := by
  refine (dif_pos (moved0_2 t _)).trans (congrArg (V m c main_v8) (funext fun a => Fin.ext ?_))
  have := (index_facts t).2.2.1
  match a with
  | ⟨0, _⟩ => show win0_2.index t (0 : Fin 2) * 256 + 1 * p.val = R.val; omega
  | ⟨1, _⟩ => show win0_2.index t (1 : Fin 2) * 2048 + 1 * k.val = k.val; omega

include hR in
theorem blk3 (k : Fin 2048) : (X0_3 m c t : FVec Ideal S256x2048 .f32) (ix2 p k) = V m c main_v8 (ix2 R ⟨2048 + k.val, by omega⟩) := by
  refine (dif_pos (moved0_3 t _)).trans (congrArg (V m c main_v8) (funext fun a => Fin.ext ?_))
  have := (index_facts t).2.2.2.1
  match a with
  | ⟨0, _⟩ => show win0_3.index t (0 : Fin 2) * 256 + 1 * p.val = R.val; omega
  | ⟨1, _⟩ => show win0_3.index t (1 : Fin 2) * 2048 + 1 * k.val = 2048 + k.val; omega

include hR in
theorem blk4 (k : Fin 2048) : (iblk m c 4 t : FVec Ideal S256x2048 .f32) (ix2 p k) = V m c main_v9 (ix2 R k) := by
  refine congrArg (V m c main_v9) (funext fun a => Fin.ext ?_)
  have := (index_facts t).2.2.2.2.1
  match a with
  | ⟨0, _⟩ => show win0_4.index t (0 : Fin 2) * 256 + 1 * p.val = R.val; omega
  | ⟨1, _⟩ => show win0_4.index t (1 : Fin 2) * 2048 + 1 * k.val = k.val; omega

/-- A window over a whole array reads the array. -/
theorem blk5 (j : Fin 1024) (k : Fin 2048) : (iblk m c 5 t : FVec Ideal S1024x2048 .bf16) (ix2 j k) = V m c main_v10 (ix2 j k) := by
  refine congrArg (V m c main_v10) (funext fun a => Fin.ext ?_)
  have := (index_facts t).2.2.2.2.2.1
  match a with
  | ⟨0, _⟩ => show win0_5.index t (0 : Fin 2) * 1024 + 1 * j.val = j.val; omega
  | ⟨1, _⟩ => show win0_5.index t (1 : Fin 2) * 2048 + 1 * k.val = k.val; omega

theorem blk6 (j : Fin 1024) (k : Fin 2048) : (iblk m c 6 t : FVec Ideal S1024x2048 .bf16) (ix2 j k) = V m c main_v11 (ix2 j k) := by
  refine congrArg (V m c main_v11) (funext fun a => Fin.ext ?_)
  have := (index_facts t).2.2.2.2.2.2.1
  match a with
  | ⟨0, _⟩ => show win0_6.index t (0 : Fin 2) * 1024 + 1 * j.val = j.val; omega
  | ⟨1, _⟩ => show win0_6.index t (1 : Fin 2) * 2048 + 1 * k.val = k.val; omega

theorem blk7 (j : Fin 2048) (k : Fin 2048) : (iblk m c 7 t : FVec Ideal S2048x2048 .bf16) (ix2 j k) = V m c main_v12 (ix2 j k) := by
  refine congrArg (V m c main_v12) (funext fun a => Fin.ext ?_)
  have := (index_facts t).2.2.2.2.2.2.2.1
  match a with
  | ⟨0, _⟩ => show win0_7.index t (0 : Fin 2) * 2048 + 1 * j.val = j.val; omega
  | ⟨1, _⟩ => show win0_7.index t (1 : Fin 2) * 2048 + 1 * k.val = k.val; omega

theorem blk8 (k : Fin 2048) : (iblk m c 8 t : FVec Ideal S1x2048 .f32) (ix2 0 k) = V m c main_v13 (ix2 0 k) := by
  refine congrArg (V m c main_v13) (funext fun a => Fin.ext ?_)
  have := (index_facts t).2.2.2.2.2.2.2.2.1
  match a with
  | ⟨0, _⟩ => show win0_8.index t (0 : Fin 2) * 1 + 1 * 0 = 0; omega
  | ⟨1, _⟩ => show win0_8.index t (1 : Fin 2) * 2048 + 1 * k.val = k.val; omega

end Cert.MergeProof

end
-- ==== Proof.MergeValue.lean ====
/-
  The merging kernel's two arrays at one index, of the arguments; and the reference at the same index.
-/
module

public import proofs.«01_k».proof.Proof.MergeBody
public import proofs.«01_k».proof.Proof.Gen.MergeRefIdeal.Read

@[expose] public section

set_option maxRecDepth 16384

noncomputable section

namespace Cert.MergeProof

open Cert.Rows Idealize.ShloMosaic Idealize.ShloMosaic.TcCoe Idealize.SL.Sem

section Kernel
open Cert.MergeIdeal Cert.MergeIdeal.Gen Cert.MergeIdeal.Value

variable (m : (ℓ : Loc nD τ sig) → Buf (Elt Ideal) ℓ) (c : Dev nD)

theorem hz2 : (![0, 0] : Fin 2 → Nat) = fun _ => 0 := by decide

/-- What a point leaves for the first output. -/
theorem out9_eq (t : Fin cfg0.N) :
    (outsAt0 m c t).1 = k0_pay1 (k0_pay3 (iblk m c 4 t)) (k0_pay4 (iblk m c 0 t) (iblk m c 5 t) (iblk m c 1 t) (iblk m c 6 t) (X0_2 m c t) (X0_3 m c t))
      (iblk m c 7 t) := by
  unfold outsAt0 out0_A_9
  dsimp only
  rw [View.read_writes_eq_canon _ _ _ (cover0_A_9 c _ _ _ _ _ _ _ _ _ _ _ _ _ _ _ _ _ _ _ _ _ _ _ _ _ _ _ _ _ _ _ _)]
  unfold kernelRun0_A
  dsimp only
  try sl_unfold_words
  rw [View.canon_unit_zero (S := S256x2048) hz2]
  simp only [View.readAt_eq_ld, (hs0_0 t).read_unread, (hs0_1 t).read_unread,
    (hs0_2 t).read_unread, (hs0_3 t).read_unread, (hs0_4 t).read_unread, (hs0_5 t).read_unread, (hs0_6 t).read_unread, (hs0_7 t).read_unread,
    (hs0_8 t).read_unread, View.ld_unit_zero (S := S256x1024) hz2, View.ld_unit_zero (S := S256x2048) hz2, View.ld_unit_zero (S := S1024x2048) hz2,
    View.ld_unit_zero (S := S2048x2048) hz2, View.ld_unit_zero (S := S1x2048) hz2]

/-- What a point leaves for the second output. -/
theorem out10_eq (t : Fin cfg0.N) :
    (outsAt0 m c t).2 = k0_pay2 (k0_pay3 (iblk m c 4 t)) (k0_pay4 (iblk m c 0 t) (iblk m c 5 t) (iblk m c 1 t) (iblk m c 6 t) (X0_2 m c t) (X0_3 m c t))
      (iblk m c 7 t) (iblk m c 8 t) := by
  unfold outsAt0 out0_A_10
  dsimp only
  rw [View.read_writes_eq_canon _ _ _ (cover0_A_10 c _ _ _ _ _ _ _ _ _ _ _ _ _ _ _ _ _ _ _ _ _ _ _ _ _ _ _ _ _ _ _ _)]
  unfold kernelRun0_A
  dsimp only
  try sl_unfold_words
  rw [View.canon_unit_zero (S := S256x2048) hz2]
  simp only [View.readAt_eq_ld, (hs0_0 t).read_unread, (hs0_1 t).read_unread,
    (hs0_2 t).read_unread, (hs0_3 t).read_unread, (hs0_4 t).read_unread, (hs0_5 t).read_unread, (hs0_6 t).read_unread, (hs0_7 t).read_unread,
    (hs0_8 t).read_unread, View.ld_unit_zero (S := S256x1024) hz2, View.ld_unit_zero (S := S256x2048) hz2, View.ld_unit_zero (S := S1024x2048) hz2,
    View.ld_unit_zero (S := S2048x2048) hz2, View.ld_unit_zero (S := S1x2048) hz2]

/-- The gated branches of row `R`, of the arguments. -/
abbrev mixRow (R : Fin 8192) : Fin 2048 → EReal :=
  mix (fun j => (m ((c : Thread nD τ).loc main_arg0) : FVec Ideal S4x2048x1024 .f32) (ix3 (bat R) (pos R) j))
    (fun j => (m ((c : Thread nD τ).loc main_arg1) : FVec Ideal S4x2048x1024 .f32) (ix3 (bat R) (pos R) j))
    (fun k => (m ((c : Thread nD τ).loc main_arg2) : FVec Ideal S4x2048x9248 .f32) (ix3 (bat R) (pos R) ⟨5152 + k.val, by omega⟩))
    (fun k => (m ((c : Thread nD τ).loc main_arg2) : FVec Ideal S4x2048x9248 .f32) (ix3 (bat R) (pos R) ⟨5152 + (2048 + k.val), by omega⟩))
    (fun j k => (m ((c : Thread nD τ).loc main_arg4) : FVec Ideal S1024x2048 .f32) (ix2 j k))
    (fun j k => (m ((c : Thread nD τ).loc main_arg5) : FVec Ideal S1024x2048 .f32) (ix2 j k))

/-- The merged row `R`, of the arguments. -/
abbrev mergedRow (R : Fin 8192) : Fin 2048 → EReal :=
  merged (fun k => (m ((c : Thread nD τ).loc main_arg3) : FVec Ideal S4x2048x2048 .f32) (ix3 (bat R) (pos R) k)) (mixRow m c R)
    (fun k l => (m ((c : Thread nD τ).loc main_arg6) : FVec Ideal S2048x2048 .f32) (ix2 k l))

variable (t : Fin cfg0.N) (p : Fin 256) (R : Fin 8192) (hR : R.val = t.val * 256 + p.val)

include hR in
/-- A point's gated branches are the arguments'. -/
theorem mix_blk (k : Fin 2048) :
    k0_pay4 (F := Ideal) (iblk m c 0 t) (iblk m c 5 t) (iblk m c 1 t) (iblk m c 6 t) (X0_2 m c t) (X0_3 m c t) (ix2 p k) = mixRow m c R k := by
  refine (pay4_apply _ _ _ _ _ _ p k).trans (congrFun ?_ k)
  exact congr (congr (congr (congr (congrArg₂ mix (funext fun j => (blk0 m c t p R hR j).trans (o_apply m c R j))
    (funext fun j => (blk1 m c t p R hR j).trans (fr_apply m c _ _ j)))
    (funext fun k => (blk2 m c t p R hR k).trans (z_apply m c R ⟨k.val, by omega⟩)))
    (funext fun k => (blk3 m c t p R hR k).trans (z_apply m c R ⟨2048 + k.val, by omega⟩)))
    (funext fun j => funext fun k => (blk5 m c t j k).trans (wa_apply m c _)))
    (funext fun j => funext fun k => (blk6 m c t j k).trans (wf_apply m c _))

include hR in
/-- A point's merged rows are the arguments'. -/
theorem merged_blk :
    merged (fun k => (iblk m c 4 t : FVec Ideal S256x2048 .f32) (ix2 p k))
      (fun k => k0_pay4 (F := Ideal) (iblk m c 0 t) (iblk m c 5 t) (iblk m c 1 t) (iblk m c 6 t) (X0_2 m c t) (X0_3 m c t) (ix2 p k))
      (fun k l => (iblk m c 7 t : FVec Ideal S2048x2048 .bf16) (ix2 k l)) = mergedRow m c R :=
  congr (congrArg₂ merged (funext fun k => (blk4 m c t p R hR k).trans (x_apply m c R k)) (funext fun k => mix_blk m c t p R hR k))
    (funext fun k => funext fun l => (blk7 m c t k l).trans (wo_apply m c _))

/-- **The first array at an index.** -/
theorem kernel_x (R : Fin 8192) (l : Fin 2048) : ((dats m 0 c).arrAt 9 cfg0.N : FVec Ideal S8192x2048 .f32) (ix2 R l) = mergedRow m c R l := by
  have hN : cfg0.N = 32 := N_0
  let t : Fin cfg0.N := ⟨R.val / 256, by omega⟩
  let p : Fin 256 := ⟨R.val % 256, by omega⟩
  have hR : R.val = t.val * 256 + p.val := by show R.val = R.val / 256 * 256 + R.val % 256; omega
  have h := congrFun (blocks9 m c t (flush0_9 t)) (ix2 p l)
  have hi : (dats m 0 c).arrAt 9 cfg0.N (ix2 R l) = ((cfg0.win 9).blk t).view.read (Elt Ideal) ((dats m 0 c).arrAt 9 cfg0.N) (ix2 p l) := by
    refine congrArg ((dats m 0 c).arrAt 9 cfg0.N) (funext fun a => Fin.ext ?_)
    have := (index_facts t).2.2.2.2.2.2.2.2.2.1
    match a with
    | ⟨0, _⟩ => show R.val = win0_9.index t (0 : Fin 2) * 256 + 1 * p.val; omega
    | ⟨1, _⟩ => show l.val = win0_9.index t (1 : Fin 2) * 2048 + 1 * l.val; omega
  rw [hi, h, flushed9]
  show (outsAt0 m c t).1 (ix2 p l) = _
  rw [out9_eq, pay1_apply]
  exact congrFun (merged_blk m c t p R hR) l

/-- **The second array at an index.** -/
theorem kernel_h (R : Fin 8192) (l : Fin 2048) :
    ((dats m 0 c).arrAt 10 cfg0.N : FVec Ideal S8192x2048 .bf16) (ix2 R l)
      = rms (mergedRow m c R) (fun k => (m ((c : Thread nD τ).loc main_arg7) : FVec Ideal S2048 .f32) (ix1 k)) l := by
  have hN : cfg0.N = 32 := N_0
  let t : Fin cfg0.N := ⟨R.val / 256, by omega⟩
  let p : Fin 256 := ⟨R.val % 256, by omega⟩
  have hR : R.val = t.val * 256 + p.val := by show R.val = R.val / 256 * 256 + R.val % 256; omega
  have h := congrFun (blocks10 m c t (flush0_10 t)) (ix2 p l)
  have hi : (dats m 0 c).arrAt 10 cfg0.N (ix2 R l) = ((cfg0.win 10).blk t).view.read (Elt Ideal) ((dats m 0 c).arrAt 10 cfg0.N) (ix2 p l) := by
    refine congrArg ((dats m 0 c).arrAt 10 cfg0.N) (funext fun a => Fin.ext ?_)
    have := (index_facts t).2.2.2.2.2.2.2.2.2.2
    match a with
    | ⟨0, _⟩ => show R.val = win0_10.index t (0 : Fin 2) * 256 + 1 * p.val; omega
    | ⟨1, _⟩ => show l.val = win0_10.index t (1 : Fin 2) * 2048 + 1 * l.val; omega
  rw [hi, h, flushed10]
  show (outsAt0 m c t).2 (ix2 p l) = _
  rw [out10_eq, pay2_apply]
  exact congrArg₂ (fun a b => rms a b l) (merged_blk m c t p R hR) (funext fun k => (blk8 m c t k).trans (g_apply m c k))

end Kernel

section Reference
open Cert.MergeRefIdeal Cert.MergeRefIdeal.Read

variable (o fr : FVec Ideal S4x2048x1024 .f32) (z : FVec Ideal S4x2048x9248 .f32) (x : FVec Ideal S4x2048x2048 .f32)
  (wa wf : FVec Ideal S1024x2048 .f32) (wo : FVec Ideal S2048x2048 .f32) (g : FVec Ideal S2048 .f32)

/-- The reference's gated branches at an index. -/
theorem ref_mix (b : Fin 4) (t : Fin 2048) (k : Fin 2048) :
    val_main_v13 (F := Ideal) o fr z wa wf (ix3 b t k)
      = mix (fun j => o (ix3 b t j)) (fun j => fr (ix3 b t j)) (fun k => z (ix3 b t ⟨5152 + k.val, by omega⟩))
          (fun k => z (ix3 b t ⟨5152 + (2048 + k.val), by omega⟩)) (fun j k => wa (ix2 j k)) (fun j k => wf (ix2 j k)) k := by
  unfold mix gate
  simp only [zero_sub]
  pointwise [val_main_v13, val_main_v12, val_main_v11, val_main_v10, val_main_v9, val_main_v8, val_main_v7, val_main_v6, val_main_v5,
    val_main_v4, val_main_v3, val_main_v2, val_main_v1, val_main_v0, val_main_cst, val_main_cst_0]

/-- The reference's merged row. -/
abbrev refRow (b : Fin 4) (t : Fin 2048) : Fin 2048 → EReal :=
  merged (fun k => x (ix3 b t k)) (mix (fun j => o (ix3 b t j)) (fun j => fr (ix3 b t j)) (fun k => z (ix3 b t ⟨5152 + k.val, by omega⟩))
    (fun k => z (ix3 b t ⟨5152 + (2048 + k.val), by omega⟩)) (fun j k => wa (ix2 j k)) (fun j k => wf (ix2 j k))) (fun k l => wo (ix2 k l))

/-- The reference's sum with the residual at an index. -/
theorem ref_merged (b : Fin 4) (t : Fin 2048) (l : Fin 2048) :
    val_main_v15 (F := Ideal) o fr z x wa wf wo (ix3 b t l) = refRow o fr z x wa wf wo b t l := by
  have e : val_main_v15 (F := Ideal) o fr z x wa wf wo (ix3 b t l)
      = merged (fun k => x (ix3 b t k)) (fun k => val_main_v13 (F := Ideal) o fr z wa wf (ix3 b t k)) (fun k l => wo (ix2 k l)) l := by
    pointwise [val_main_v15, val_main_v14]
  exact e.trans (congrFun (congrArg₂ (merged _) (funext fun k => ref_mix o fr z wa wf b t k) rfl) l)

/-- **The reference's first result at an index.** -/
theorem ref_x (R : Fin 8192) (l : Fin 2048) :
    val_main_v16 (F := Ideal) o fr z x wa wf wo (ix2 R l) = refRow o fr z x wa wf wo (bat R) (pos R) l := by
  have e : val_main_v16 (F := Ideal) o fr z x wa wf wo (ix2 R l) = val_main_v15 (F := Ideal) o fr z x wa wf wo (ix3 (bat R) (pos R) l) := by
    pointwise [val_main_v16]
  exact e.trans (ref_merged o fr z x wa wf wo _ _ l)

/-- **The reference's second result at an index.** -/
theorem ref_h (R : Fin 8192) (l : Fin 2048) :
    val_main_v31 (F := Ideal) o fr z x wa wf wo g (ix2 R l) = rms (refRow o fr z x wa wf wo (bat R) (pos R)) (fun k => g (ix1 k)) l := by
  have e : val_main_v31 (F := Ideal) o fr z x wa wf wo g (ix2 R l)
      = rms (fun k => val_main_v15 (F := Ideal) o fr z x wa wf wo (ix3 (bat R) (pos R) k)) (fun k => g (ix1 k)) l := by
    pointwise [val_main_v31, val_main_v30, val_main_v29, val_main_v28, val_main_v27, val_main_v26, val_main_v25, val_main_v24,
      val_main_v23, val_main_v22, val_main_v21, val_main_v20, val_main_v19, val_main_v18, val_main_v17, val_main_cst_1, val_main_cst_2,
      val_main_cst_3]
  exact e.trans (congrArg (fun y => rms y (fun k => g (ix1 k)) l) (funext fun k => ref_merged o fr z x wa wf wo _ _ k))

end Reference

end Cert.MergeProof

end
-- ==== Proof.MergeClaim.lean ====
/-
  The merging call's claims: the reference's frame, and that the kernel and the reference end with equal results.
-/
module

public import proofs.«01_k».proof.Defs
public import proofs.«01_k».proof.Proof.MergeValue
public import proofs.«01_k».proof.Proof.Gen.MergeIdeal
public import proofs.«01_k».proof.Proof.Gen.MergeRefIdeal

@[expose] public section

noncomputable section

namespace Cert.MergeProof

open Cert.Rows Idealize.ShloMosaic Idealize.ShloMosaic.TcCoe Idealize.SL.Sem

theorem frame_ref : Cert.quiescent_MergeRefIdeal := fun m ρ _ =>
  (θ_run Cert.MergeRefIdeal.defs _ _).mono (fun r h => ⟨fun c => (h c).2.2, sem_eq_zero_of_no_sems (by decide) r.2⟩)
    (Cert.MergeRefIdeal.Value.run (F := Ideal) m ρ)

theorem algebraic : Cert.algebraic_MergeIdeal_MergeRefIdeal := by
  intro m ρ m' ρ' _ hagree
  refine ⟨fun c => (Cert.MergeIdeal.Gen.dats m 0 c).arrAt 9 Cert.MergeIdeal.cfg0.N, fun c => (Cert.MergeIdeal.Gen.dats m 0 c).arrAt 10 Cert.MergeIdeal.cfg0.N,
    Cert.MergeIdeal.Value.run_blocks (F := Ideal) m ρ, ?_⟩
  refine (θ_run Cert.MergeRefIdeal.defs _ _).mono (fun _ h c => ?_) (Cert.MergeRefIdeal.Value.run (F := Ideal) m' ρ')
  obtain ⟨h0, h1, h2, h3, h4, h5, h6, h7⟩ := hagree c
  refine ⟨(h c).1.trans ?_, (h c).2.1.trans ((Cert.MergeRefIdeal.Read.val_main_v31_eq m' c).trans ?_), (h c).2.2⟩
  · rw [h0, h1, h2, h3, h4, h5, h6]
    refine (Cert.MergeRefIdeal.Read.val_main_v16_eq _ _ _ _ _ _ _).trans (funext fun i => ?_)
    obtain ⟨R, l, rfl⟩ : ∃ (R : Fin 8192) (l : Fin 2048), i = ix2 R l := ⟨i 0, i 1, eq_ix2 i⟩
    exact (ref_x _ _ _ _ _ _ _ R l).trans (kernel_x m c R l).symm
  · rw [h0, h1, h2, h3, h4, h5, h6, h7]
    refine funext fun i => ?_
    obtain ⟨R, l, rfl⟩ : ∃ (R : Fin 8192) (l : Fin 2048), i = ix2 R l := ⟨i 0, i 1, eq_ix2 i⟩
    exact (ref_h _ _ _ _ _ _ _ _ R l).trans (kernel_h m c R l).symm

end Cert.MergeProof

end
-- ==== Proof.InProjOk.lean ====
/-
  The table of row starts is a constant of the host, so what the input projection's launch asks of it (every start a multiple of
  the stated one, every block of weight rows inside the array) holds without a precondition.
-/
module

public import proofs.«01_k».proof.Defs
public import proofs.«01_k».proof.Proof.Gen.InProj.Frame
public import proofs.«01_k».proof.Proof.Gen.InProjIdeal.Frame

@[expose] public section

set_option maxRecDepth 16384

noncomputable section

namespace Cert.InProjProof

open Idealize.ShloMosaic Idealize.ShloMosaic.TcCoe Idealize.SL.Sem

variable {F : FTy → Type} [FloatOps F]

section Ideal
open Cert.InProjIdeal Cert.InProjIdeal.Gen

theorem tbl_at (m : (ℓ : Loc nD τ sig) → Buf (Elt F) ℓ) (x : S9.Idx) : tbl m 0 x = lit0 (x 0) := by
  have e : V m 0 main_c = (fun i => lit0 (S9.rowMajor i)) := by
    unfold V hostOps0
    after_results
    rfl
  refine (congrFun e x).trans (congrArg lit0 (Fin.ext ?_))
  show (Shape.rowMajorPi S9.size x).val = _
  rw [Shape.rowMajorPi_succ_val]
  have h0 := (Shape.rowMajorPi (fun a : Fin 0 => S9.size a.succ) (fun a => x a.succ)).isLt
  simp at h0
  simpa using h0

/-- Where the launch reads the table: at the column step. -/
theorem step_word (j : Fin 9) : (Scalar.indexCast (BitVec.ofNat 32 j.val)).toNat = j.val := by
  revert j; decide

theorem start_at (pf : pre0.Contents (Elt F)) (h : ∀ x : S9.Idx, pf 0 x = lit0 (x 0)) (i : grid0.Coords) :
    cc0_transform_1 k0_off1_inb numel1_S1 pf i = ![(lit0 (i 1)).toNat, 0] := by
  have e : pf.at 0 (Rect.unit (s := S9) ![(Scalar.indexCast (BitVec.ofNat 32 (i 1).val)).toNat] S1.size (k0_off1_inb i)) numel1_S1 = lit0 (i 1) :=
    (h _).trans (congrArg lit0 (Fin.ext ((Nat.add_zero _).trans (step_word (i 1)))))
  exact congrArg (fun w : BitVec 32 => ![w.toNat, 0]) e

theorem mult_at (pf : pre0.Contents (Elt F)) (h : ∀ x : S9.Idx, pf 0 x = lit0 (x 0)) (i : grid0.Coords) :
    k0_mult1 pf i = lit0 (i 1) := by
  have hi : ∀ a : Fin 1, (![(Scalar.indexCast (BitVec.ofNat 32 (i 1).val)).toNat] : Fin 1 → Nat) a + 1 ≤ S9.size a := fun
    | 0 => k0_off1_inb i 0
  refine (dif_pos hi).trans ((h _).trans (congrArg lit0 (Fin.ext ?_)))
  exact step_word _

theorem starts_fit : ∀ j : Fin 9, ∃ h : (∀ a, (![(lit0 j).toNat, 0] : Fin 2 → Nat) a + S1024x2048.size a ≤ S9248x2048.size a),
    EltTy.bits .bf16 = 32 ∨ (Rect.unit (s := S9248x2048) ![(lit0 j).toNat, 0] S1024x2048.size h).WholeWords (EltTy.packing .bf16) := by
  decide +kernel

theorem ok_of_table (pf : pre0.Contents (Elt F)) (h : ∀ x : S9.Idx, pf 0 x = lit0 (x 0)) : ok0 pf := by
  refine ⟨fun i => ?_, fun i => ?_⟩
  · rw [mult_at pf h]
    exact (by decide : ∀ j : Fin 9, (32 : Int) ∣ (lit0 j).toInt) (i 1)
  · rw [start_at pf h]
    exact starts_fit (i 1)

theorem ok (m : (ℓ : Loc nD τ sig) → Buf (Elt F) ℓ) : Ok m := ok_of_table _ (tbl_at m)

end Ideal

/-- The kernel as it stands has the same text. -/
theorem ok_kernel (m : (ℓ : Loc Cert.InProj.nD Cert.InProj.τ Cert.InProj.sig) → Buf (Elt F) ℓ) : Cert.InProj.Gen.Ok m := ok (F := F) m

end Cert.InProjProof
-- ==== Proof.InProjBody.lean ====
/-
  What one grid point of the projection stores. Every point stores the product of its block of rows with its slice of the
  weight; a point whose slice is the last one also stores, group of 128 columns by group, that product times the circle's
  table: the cosine half in the first plane and the sine half in the second. The sixteen stores are one function.
-/
module

public import proofs.«01_k».proof.Proof.InProjOk
public import Idealize.ShloMosaic.Lib.Pipeline.ReadBack
public import proofs.«01_k».proof.Proof.Circle

@[expose] public section

set_option maxRecDepth 16384

noncomputable section

namespace Cert.InProjProof

open Cert.Rows Idealize.ShloMosaic Idealize.ShloMosaic.TcCoe Idealize.ShloMosaic.Tactic Idealize.SL.Sem
open Cert.InProjIdeal Cert.InProjIdeal.Gen

theorem hz2 : (![0, 0] : Fin 2 → Nat) = fun _ => 0 := funext fun a => by fin_cases a <;> rfl

section Stores
variable {F : FTy → Type} [FloatOps F]
variable (c : Dev nD) (i : grid0.Coords) (arg3 : Memref sig .tc .vmem S1024x2048 .bf16) (harg3 : arg3.IsWhole)
  (arg4 : Memref sig .tc .vmem S1024x2048 .bf16) (harg4 : arg4.IsWhole) (arg5 : Memref sig .tc .vmem S128x256 .bf16) (harg5 : arg5.IsWhole)
  (arg6 : Memref sig .tc .vmem S1024x1024 .f32) (harg6 : arg6.IsWhole) (arg7 : Memref sig .tc .vmem S2x1024x1024 .bf16) (harg7 : arg7.IsWhole)
  (x0 : Vec F S1024x2048 .bf16) (x1 : Vec F S1024x2048 .bf16) (x2 : Vec F S128x256 .bf16) (xt0 : TbBuf0 (F := F) c tbM0_0)

theorem out_A_3_eq (hc0 : ¬cond0_0 i) :
    out0_A_3 c i arg3 harg3 arg4 harg4 arg5 harg5 arg6 harg6 arg7 harg7 hc0 x0 x1 x2 xt0 = k0_pay1 x0 x1 := by
  unfold out0_A_3
  rw [View.read_writes_eq_canon _ _ _ (cover0_A_3 c i arg3 harg3 arg4 harg4 arg5 harg5 arg6 harg6 arg7 harg7 hc0 x0 x1 x2 xt0)]
  unfold kernelRun0_A
  dsimp only
  try sl_unfold_words
  rw [View.canon_unit_zero hz2]
  simp only [View.readAt_eq_ld, harg3.read_unread, harg4.read_unread, View.ld_unit_zero (S := S1024x2048) hz2]

theorem out_B_3_eq (hc0 : cond0_0 i) :
    out0_B_3 c i arg3 harg3 arg4 harg4 arg5 harg5 arg6 harg6 arg7 harg7 hc0 x0 x1 x2 xt0 = k0_pay1 x0 x1 := by
  unfold out0_B_3
  rw [View.read_writes_eq_canon _ _ _ (cover0_B_3 c i arg3 harg3 arg4 harg4 arg5 harg5 arg6 harg6 arg7 harg7 hc0 x0 x1 x2 xt0)]
  unfold kernelRun0_B
  dsimp only
  try sl_unfold_words
  rw [View.canon_unit_zero hz2]
  simp only [View.readAt_eq_ld, harg3.read_unread, harg4.read_unread, View.ld_unit_zero (S := S1024x2048) hz2]

end Stores

/-! ## At the ideal interpretation, at an index -/

/-- The product of the rows with the slice. -/
theorem pay1_apply (x0 x1 : FVec Ideal S1024x2048 .bf16) (r j : Fin 1024) :
    k0_pay1 (F := Ideal) x0 x1 (ix2 r j) = ∑ k : Fin 2048, x0 (ix2 r k) * x1 (ix2 j k) := by
  pointwise [k0_pay1]

/-- The transform of a block's groups: plane `y 0` of it, at row `y 1` and column `y 2`. -/
abbrev groups (P : FVec Ideal S1024x1024 .f32) (w : FVec Ideal S128x256 .bf16) : S2x1024x1024.Idx → EReal := fun y =>
  ∑ k : Fin 128, P (ix2 (y 1) (⟨128 * ((y 2).val / 128) + k.val, by have : (y 2).val < 1024 := (y 2).isLt; omega⟩ : Fin 1024))
    * w (ix2 k (⟨128 * (y 0).val + (y 2).val % 128, by have : (y 0).val < 2 := (y 0).isLt; omega⟩ : Fin 256))

theorem cos_apply (a : FVec Ideal S1024x128 .f32) (w : FVec Ideal S128x256 .bf16) (r : Fin 1024) (l : Fin 128) :
    k0_pay9 (F := Ideal) a w (ix3 0 r l) = ∑ k : Fin 128, a (ix2 r k) * w (ix2 k ⟨l.val, by omega⟩) := by
  pointwise [k0_pay9, k0_pay8]

theorem sin_apply (a : FVec Ideal S1024x128 .f32) (w : FVec Ideal S128x256 .bf16) (r : Fin 1024) (l : Fin 128) :
    k0_pay10 (F := Ideal) a w (ix3 0 r l) = ∑ k : Fin 128, a (ix2 r k) * w (ix2 k ⟨128 + l.val, by omega⟩) := by
  pointwise [k0_pay10, k0_pay8]

variable (P : FVec Ideal S1024x1024 .f32) (w : FVec Ideal S128x256 .bf16)

/-- What a load of a group reads. -/
theorem ld_group (o : ℕ) (inb : ∀ a : Fin 2, (![0, o] : Fin 2 → ℕ) a + (![1024, 128] : Fin 2 → ℕ) a ≤ S1024x1024.size a)
    (ho : o + 128 ≤ 1024) (r : Fin 1024) (k : Fin 128) :
    (View.ld (Val := Elt Ideal) (e' := .f32) P (Rect.unit (s := S1024x1024) ![0, o] ![1024, 128] inb) : FVec Ideal S1024x128 .f32) (ix2 r k)
      = P (ix2 r ⟨o + k.val, by omega⟩) := by
  refine congrArg P (funext fun a => Fin.ext ?_)
  match a with
  | ⟨0, _⟩ => show 0 + 1 * r.val = r.val; omega
  | ⟨1, _⟩ => show o + 1 * k.val = o + k.val; omega

theorem cos_piece (o : ℕ) (inb : ∀ a : Fin 2, (![0, o] : Fin 2 → ℕ) a + (![1024, 128] : Fin 2 → ℕ) a ≤ S1024x1024.size a)
    (inb' : ∀ a : Fin 3, (![0, 0, o] : Fin 3 → ℕ) a + (![1, 1024, 128] : Fin 3 → ℕ) a ≤ S2x1024x1024.size a) (ho : o + 128 ≤ 1024) (hd : o % 128 = 0)
    (x : S1x1024x128.Idx) :
    k0_pay9 (F := Ideal) (View.ld (Val := Elt Ideal) (e' := .f32) P (Rect.unit (s := S1024x1024) ![0, o] ![1024, 128] inb)) w x
      = groups P w ((Rect.unit (s := S2x1024x1024) ![0, 0, o] ![1, 1024, 128] inb').emb x) := by
  obtain ⟨z, r, l, rfl⟩ : ∃ (z : Fin 1) (r : Fin 1024) (l : Fin 128), x = ix3 z r l := ⟨x 0, x 1, x 2, eq_ix3 x⟩
  obtain rfl : z = 0 := Subsingleton.elim _ _
  refine (cos_apply _ w r l).trans (Finset.sum_congr rfl fun k _ => ?_)
  rw [ld_group P o inb ho r k]
  refine congrArg₂ (fun a b => P a * w b) (funext fun a => Fin.ext ?_) (funext fun a => Fin.ext ?_)
  · match a with
    | ⟨0, _⟩ => show r.val = 0 + 1 * r.val; omega
    | ⟨1, _⟩ => show o + k.val = 128 * ((o + 1 * l.val) / 128) + k.val; omega
  · match a with
    | ⟨0, _⟩ => rfl
    | ⟨1, _⟩ => show l.val = 128 * 0 + (o + 1 * l.val) % 128; omega

theorem sin_piece (o : ℕ) (inb : ∀ a : Fin 2, (![0, o] : Fin 2 → ℕ) a + (![1024, 128] : Fin 2 → ℕ) a ≤ S1024x1024.size a)
    (inb' : ∀ a : Fin 3, (![1, 0, o] : Fin 3 → ℕ) a + (![1, 1024, 128] : Fin 3 → ℕ) a ≤ S2x1024x1024.size a) (ho : o + 128 ≤ 1024) (hd : o % 128 = 0)
    (x : S1x1024x128.Idx) :
    k0_pay10 (F := Ideal) (View.ld (Val := Elt Ideal) (e' := .f32) P (Rect.unit (s := S1024x1024) ![0, o] ![1024, 128] inb)) w x
      = groups P w ((Rect.unit (s := S2x1024x1024) ![1, 0, o] ![1, 1024, 128] inb').emb x) := by
  obtain ⟨z, r, l, rfl⟩ : ∃ (z : Fin 1) (r : Fin 1024) (l : Fin 128), x = ix3 z r l := ⟨x 0, x 1, x 2, eq_ix3 x⟩
  obtain rfl : z = 0 := Subsingleton.elim _ _
  refine (sin_apply _ w r l).trans (Finset.sum_congr rfl fun k _ => ?_)
  rw [ld_group P o inb ho r k]
  refine congrArg₂ (fun a b => P a * w b) (funext fun a => Fin.ext ?_) (funext fun a => Fin.ext ?_)
  · match a with
    | ⟨0, _⟩ => show r.val = 0 + 1 * r.val; omega
    | ⟨1, _⟩ => show o + k.val = 128 * ((o + 1 * l.val) / 128) + k.val; omega
  · match a with
    | ⟨0, _⟩ => rfl
    | ⟨1, _⟩ => show 128 + l.val = 128 * 1 + (o + 1 * l.val) % 128; omega

variable (c : Dev nD) (i : grid0.Coords) (arg3 : Memref sig .tc .vmem S1024x2048 .bf16) (harg3 : arg3.IsWhole)
  (arg4 : Memref sig .tc .vmem S1024x2048 .bf16) (harg4 : arg4.IsWhole) (arg5 : Memref sig .tc .vmem S128x256 .bf16) (harg5 : arg5.IsWhole)
  (arg6 : Memref sig .tc .vmem S1024x1024 .f32) (harg6 : arg6.IsWhole) (arg7 : Memref sig .tc .vmem S2x1024x1024 .bf16) (harg7 : arg7.IsWhole)
  (x0 : Vec Ideal S1024x2048 .bf16) (x1 : Vec Ideal S1024x2048 .bf16) (x2 : Vec Ideal S128x256 .bf16) (xt0 : TbBuf0 (F := Ideal) c tbM0_0)

theorem out_B_4_eq (hc0 : cond0_0 i) (y : S2x1024x1024.Idx) :
    out0_B_4 c i arg3 harg3 arg4 harg4 arg5 harg5 arg6 harg6 arg7 harg7 hc0 x0 x1 x2 xt0 y = groups (k0_pay1 (F := Ideal) x0 x1) x2 y := by
  have hcover := cover0_B_4 c i arg3 harg3 arg4 harg4 arg5 harg5 arg6 harg6 arg7 harg7 hc0 x0 x1 x2 xt0
  unfold out0_B_4
  rw [View.read_writes_eq_canon _ _ _ hcover]
  refine View.canon_apply_of_pieces (Val := Elt Ideal) (e := .bf16) (groups (k0_pay1 (F := Ideal) x0 x1) x2) _ (View.PiecesOf.mem ?_) y (hcover y)
  unfold kernelRun0_B
  dsimp only
  try sl_unfold_words
  simp only [View.readAt_eq_ld, harg3.read_unread, harg4.read_unread, harg5.read_unread, View.ld_unit_zero (S := S1024x2048) hz2,
    View.ld_unit_zero (S := S128x256) hz2]
  have hl : ∀ (o : ℕ) (inb : ∀ a : Fin 2, (![0, o] : Fin 2 → ℕ) a + (![1024, 128] : Fin 2 → ℕ) a ≤ S1024x1024.size a),
      arg6.view.readCov [⟨Rect.unit ![0, 0] ![1024, 1024] inb_S1024x1024_S1024x1024_0_0, k0_pay1 (F := Ideal) x0 x1⟩] (Rect.unit ![0, o] ![1024, 128] inb).toLoadRect
        = View.ld (Val := Elt Ideal) (e' := .f32) (k0_pay1 (F := Ideal) x0 x1) (Rect.unit ![0, o] ![1024, 128] inb) := fun o inb =>
    View.readCov_fill arg6.view _ _ _ _ (fun a => congrFun hz2 a)
  simp only [hl]
  exact ⟨sin_piece _ _ 896 (by decide) (by decide) (by decide) rfl, cos_piece _ _ 896 (by decide) (by decide) (by decide) rfl, sin_piece _ _ 768 (by decide) (by decide) (by decide) rfl, cos_piece _ _ 768 (by decide) (by decide) (by decide) rfl,
    sin_piece _ _ 640 (by decide) (by decide) (by decide) rfl, cos_piece _ _ 640 (by decide) (by decide) (by decide) rfl, sin_piece _ _ 512 (by decide) (by decide) (by decide) rfl, cos_piece _ _ 512 (by decide) (by decide) (by decide) rfl,
    sin_piece _ _ 384 (by decide) (by decide) (by decide) rfl, cos_piece _ _ 384 (by decide) (by decide) (by decide) rfl, sin_piece _ _ 256 (by decide) (by decide) (by decide) rfl, cos_piece _ _ 256 (by decide) (by decide) (by decide) rfl,
    sin_piece _ _ 128 (by decide) (by decide) (by decide) rfl, cos_piece _ _ 128 (by decide) (by decide) (by decide) rfl, sin_piece _ _ 0 (by decide) (by decide) (by decide) rfl, cos_piece _ _ 0 (by decide) (by decide) (by decide) rfl, trivial⟩

end Cert.InProjProof

end
-- ==== Proof.InProjArrays.lean ====
/-
  The arrays the projection's windows read, in terms of the arguments: the rows, the transposed weight and the circle of
  128 points; and the windows' blocks. The weight's slices start where the table says.
-/
module

public import proofs.«01_k».proof.Proof.InProjBody

@[expose] public section

set_option maxRecDepth 16384

noncomputable section

namespace Cert.InProjProof

open Cert.Rows Cert.Circle Idealize.ShloMosaic Idealize.ShloMosaic.TcCoe Idealize.SL.Sem

/-! ## The circle of 128 points -/

/-- The step as it is printed: twice the angle of minus one, over 128. -/
abbrev step128 : EReal :=
  Ideal.div (Ideal.ofBits .f32 0x40000000#32 * Ideal.acos (Ideal.ofBits .f32 0xBF800000#32)) (Ideal.ofBits .f32 0x43000000#32)

theorem ofBits_128 : Ideal.ofBits .f32 0x43000000#32 = ((128 : ℝ) : EReal) := by
  simp [Ideal.ofBits, Ideal.ieee, -EReal.coe_mul]; norm_num

theorem step128_eq : step128 = ((2 * Real.pi / 128 : ℝ) : EReal) := by
  unfold step128
  rw [ofBits_two, ofBits_neg_one, ofBits_128, Ideal.acos_coe, if_pos (by norm_num), Real.arccos_neg_one, ← EReal.coe_mul,
    div_coe _ _ (by norm_num)]

/-- The angle of `k * n` steps, and of their remainder by a whole turn. -/
abbrev angle (k n : ℕ) : EReal :=
  FloatOps.sitofp (F := Ideal) FTy.f32 (IntOp.muli (BitVec.ofNat 32 k) (BitVec.ofNat 32 n)) * step128
abbrev turned (k n : ℕ) : EReal :=
  FloatOps.sitofp (F := Ideal) FTy.f32 (IntOp.remsi ArithUnit.host (IntOp.muli (BitVec.ofNat 32 k) (BitVec.ofNat 32 n)) 128#32) * step128

theorem angle_eq (k n : ℕ) (h : k * n < 2 ^ 31) : angle k n = (((k * n : ℕ) * (2 * Real.pi / 128) : ℝ) : EReal) := by
  show ((((IntOp.muli (BitVec.ofNat 32 k) (BitVec.ofNat 32 n)).toInt : ℝ) : EReal) * step128) = _
  rw [muli_toInt k n h, step128_eq, ← EReal.coe_mul, Int.cast_natCast]

theorem turned_eq (k n : ℕ) (h : k * n < 2 ^ 31) : turned k n = (((k * n % 128 : ℕ) * (2 * Real.pi / 128) : ℝ) : EReal) := by
  have e : (IntOp.remsi ArithUnit.host (IntOp.muli (BitVec.ofNat 32 k) (BitVec.ofNat 32 n)) 128#32).toInt = ((k * n % 128 : ℕ) : ℤ) := by
    unfold IntOp.remsi
    rw [if_neg (by unfold IntOp.SDivCorner; simp), BitVec.toInt_srem, muli_toInt k n h]
    rfl
  show ((((IntOp.remsi ArithUnit.host (IntOp.muli (BitVec.ofNat 32 k) (BitVec.ofNat 32 n)) 128#32).toInt : ℝ) : EReal) * step128) = _
  rw [e, step128_eq, ← EReal.coe_mul, Int.cast_natCast]

/-- The angle, whole turns put back. -/
theorem whole_turns (a : ℕ) : ((a : ℕ) : ℝ) * (2 * Real.pi / 128) = (a % 128 : ℕ) * (2 * Real.pi / 128) + (a / 128 : ℕ) * (2 * Real.pi) := by
  conv_lhs => rw [← Nat.mod_add_div a 128]
  push_cast; ring

theorem cos_turned (k n : ℕ) (h : k * n < 2 ^ 31) : Ideal.cos (turned k n) = Ideal.cos (angle k n) := by
  rw [turned_eq k n h, angle_eq k n h]
  show ((Real.cos _ : ℝ) : EReal) = ((Real.cos _ : ℝ) : EReal)
  rw [whole_turns (k * n), Real.cos_add_nat_mul_two_pi]

theorem sin_turned (k n : ℕ) (h : k * n < 2 ^ 31) : Ideal.sin (turned k n) = Ideal.sin (angle k n) := by
  rw [turned_eq k n h, angle_eq k n h]
  show ((Real.sin _ : ℝ) : EReal) = ((Real.sin _ : ℝ) : EReal)
  rw [whole_turns (k * n), Real.sin_add_nat_mul_two_pi]

open Cert.InProjIdeal Cert.InProjIdeal.Gen

/-! ## The host's arrays at an index -/

abbrev turnedHost : FVec Ideal S128x128 .f32 :=
  mulf (sitofp .f32 (Host.remsi (muli (iotaInDim S128x128 32 0) (iotaInDim S128x128 32 1))
    (broadcastInDim S128x128 ![] bcast_S_S128x128 (constantI S_ 32 128#32))))
    (broadcastInDim S128x128 ![] bcast_S_S128x128
      (Host.divf (mulf (constant S_ .f32 0x40000000#32) (Host.acos (constant S_ .f32 0xBF800000#32))) (constant S_ .f32 0x43000000#32)))

abbrev circleTable : FVec Ideal S128x256 .bf16 :=
  truncf .bf16 (concatenate S128x256 1 [⟨S128x128, Host.cos turnedHost⟩, ⟨S128x128, Host.negf (Host.sin turnedHost)⟩]
    concatenates_S128x128_S128x128_S128x256_d1) bitsLt_bf16_f32

abbrev rowsHost (x : FVec Ideal S4x2048x2048 .f32) : FVec Ideal S8192x2048 .bf16 :=
  truncf .bf16 (shapeCast S8192x2048 x shapeCasts_S4x2048x2048_S8192x2048) bitsLt_bf16_f32

abbrev weightHost (w : FVec Ideal S2048x9248 .f32) : FVec Ideal S9248x2048 .bf16 :=
  truncf .bf16 (transpose S9248x2048 [1, 0] w transposes_S2048x9248_S9248x2048_1_0) bitsLt_bf16_f32

theorem circle_cos (k l : Fin 128) : circleTable (ix2 k ⟨l.val, by omega⟩) = Ideal.cos (angle k.val l.val) := by
  have e : circleTable (ix2 k ⟨l.val, by omega⟩) = Ideal.cos (turned k.val l.val) := by pointwise
  exact e.trans (cos_turned _ _ (by nlinarith [k.isLt, l.isLt]))

theorem circle_sin (k l : Fin 128) : circleTable (ix2 k ⟨128 + l.val, by omega⟩) = -Ideal.sin (angle k.val l.val) := by
  have e : circleTable (ix2 k ⟨128 + l.val, by omega⟩) = -Ideal.sin (turned k.val l.val) := by pointwise
  exact e.trans (congrArg (- ·) (sin_turned _ _ (by nlinarith [k.isLt, l.isLt])))

theorem rowsHost_apply (x : FVec Ideal S4x2048x2048 .f32) (b : Fin 4) (p k : Fin 2048) :
    rowsHost x (ix2 ⟨b.val * 2048 + p.val, by omega⟩ k) = x (ix3 b p k) := by pointwise

theorem weightHost_apply (w : FVec Ideal S2048x9248 .f32) (n : Fin 9248) (k : Fin 2048) : weightHost w (ix2 n k) = w (ix2 k n) := by pointwise

section
variable (m : (ℓ : Loc nD τ sig) → Buf (Elt Ideal) ℓ) (c : Dev nD)

theorem V_circle : V m c main_v15 = (circleTable : FVec Ideal S128x256 .bf16) := by
  unfold V hostOps0; after_results
theorem V_rows : V m c main_v17 = (rowsHost (m ((c : Thread nD τ).loc main_arg0)) : FVec Ideal S8192x2048 .bf16) := by
  unfold V hostOps0; after_results; rfl
theorem V_weight : V m c main_v19 = (weightHost (m ((c : Thread nD τ).loc main_arg1)) : FVec Ideal S9248x2048 .bf16) := by
  unfold V hostOps0; after_results
end

/-! ## The windows' blocks -/

/-- Where the slice of column step `j` starts. -/
def start (j : ℕ) : ℕ := if j < 4 then 5152 + 1024 * j else 1024 * (j - 4)

theorem lit_start : ∀ j : Fin 9, (lit0 j).toNat = start j.val := by decide +kernel

/-- Where each window's block lies at each point. -/
theorem index_facts : ∀ t : Fin grid0.N,
    (cc0_transform_0 (grid0.coords t) (0 : Fin 2) = t.val / 9 ∧ cc0_transform_0 (grid0.coords t) (1 : Fin 2) = 0)
    ∧ (grid0.coords t 1).val = t.val % 9
    ∧ (cc0_transform_2 (grid0.coords t) (0 : Fin 2) = 0 ∧ cc0_transform_2 (grid0.coords t) (1 : Fin 2) = 0)
    ∧ (cc0_transform_3 (grid0.coords t) (0 : Fin 2) = t.val / 9 ∧ cc0_transform_3 (grid0.coords t) (1 : Fin 2) = t.val % 9)
    ∧ (cc0_transform_4 (grid0.coords t) (0 : Fin 3) = 0 ∧ cc0_transform_4 (grid0.coords t) (1 : Fin 3) = t.val / 9 % 2
      ∧ cc0_transform_4 (grid0.coords t) (2 : Fin 3) = t.val / 9 / 2) := by decide +kernel

variable (a : (pcfg0 (F := Ideal)).Adm) (t : Fin (cfg0 a).N)

theorem point_lt : t.val < 72 := t.isLt.trans_eq N_0

theorem blk_at0 (A : FVec Ideal S8192x2048 .bf16) (r : Fin 1024) (k : Fin 2048) :
    ((((cfg0 a).win 0).blk t).view.read (Elt Ideal) A : FVec Ideal S1024x2048 .bf16) (ix2 r k)
      = A (ix2 ⟨t.val / 9 * 1024 + r.val, by have := point_lt a t; omega⟩ k) := by
  refine congrArg A (funext fun a => Fin.ext ?_)
  have := (index_facts t).1
  match a with
  | ⟨0, _⟩ => show cc0_transform_0 (grid0.coords t) (0 : Fin 2) * 1024 + 1 * r.val = t.val / 9 * 1024 + r.val; omega
  | ⟨1, _⟩ => show cc0_transform_0 (grid0.coords t) (1 : Fin 2) * 2048 + 1 * k.val = k.val; omega

theorem start_le (j : ℕ) (h : j < 9) : start j ≤ 8224 := by unfold start; split <;> omega

theorem blk_at1 (ha : ∀ x : S9.Idx, a.1 0 x = lit0 (x 0)) (A : FVec Ideal S9248x2048 .bf16) (n : Fin 1024) (k : Fin 2048) :
    ((((cfg0 a).win 1).blk t).view.read (Elt Ideal) A : FVec Ideal S1024x2048 .bf16) (ix2 n k)
      = A (ix2 ⟨start (t.val % 9) + n.val, by have := start_le (t.val % 9) (Nat.mod_lt _ (by decide)); omega⟩ k) := by
  have e0 := congrFun (start_at a.1 ha (grid0.coords t)) (0 : Fin 2)
  have e1 := congrFun (start_at a.1 ha (grid0.coords t)) (1 : Fin 2)
  have h := (index_facts t).2.1
  refine congrArg A (funext fun b => Fin.ext ?_)
  match b with
  | ⟨0, _⟩ =>
    show cc0_transform_1 k0_off1_inb numel1_S1 a.1 (grid0.coords t) (0 : Fin 2) + 1 * n.val = start (t.val % 9) + n.val
    rw [e0, ← h, ← lit_start (grid0.coords t 1)]
    show (lit0 (grid0.coords t 1)).toNat + 1 * n.val = _
    omega
  | ⟨1, _⟩ =>
    show cc0_transform_1 k0_off1_inb numel1_S1 a.1 (grid0.coords t) (1 : Fin 2) + 1 * k.val = k.val
    rw [e1]
    show 0 + 1 * k.val = k.val
    omega

theorem blk_at2 (A : FVec Ideal S128x256 .bf16) (k : Fin 128) (n : Fin 256) :
    ((((cfg0 a).win 2).blk t).view.read (Elt Ideal) A : FVec Ideal S128x256 .bf16) (ix2 k n) = A (ix2 k n) := by
  refine congrArg A (funext fun a => Fin.ext ?_)
  have := (index_facts t).2.2.1
  match a with
  | ⟨0, _⟩ => show cc0_transform_2 (grid0.coords t) (0 : Fin 2) * 128 + 1 * k.val = k.val; omega
  | ⟨1, _⟩ => show cc0_transform_2 (grid0.coords t) (1 : Fin 2) * 256 + 1 * n.val = n.val; omega

end Cert.InProjProof

end
-- ==== Proof.InProjValue.lean ====
/-
  The projection kernel's two arrays at an index, of the arguments; and the reference at the same indices. The first array
  is the product of the rows with the weight, its gate columns moved to the front; the second is the transform of the
  columns after the first 4096, in groups of 128, its real part in plane 0 and its imaginary part in plane 1.
-/
module

public import proofs.«01_k».proof.Proof.InProjArrays
public import proofs.«01_k».proof.Proof.Gen.InProjRefIdeal.Read

@[expose] public section

set_option maxRecDepth 16384

noncomputable section

namespace Cert.InProjProof

open Cert.Rows Cert.Circle Idealize.ShloMosaic Idealize.ShloMosaic.TcCoe Idealize.SL.Sem

/-- The row of a position times a column of the weight. -/
abbrev proj (x : FVec Ideal ⟨3, ![4, 2048, 2048]⟩ .f32) (w : FVec Ideal ⟨2, ![2048, 9248]⟩ .f32) (b : Fin 4) (p : Fin 2048) (n : Fin 9248) : EReal :=
  ∑ d : Fin 2048, x (ix3 b p d) * w (ix2 d n)

/-- The weight's column that column `n` of the first result holds. -/
def col (n : Fin 9216) : Fin 9248 := ⟨if n.val < 4096 then 5152 + n.val else n.val - 4096, by split <;> omega⟩

/-- Entry `l` of group `g` of a position's transform: the real part in plane 0, the imaginary part in plane 1. -/
abbrev transformed (x : FVec Ideal ⟨3, ![4, 2048, 2048]⟩ .f32) (w : FVec Ideal ⟨2, ![2048, 9248]⟩ .f32) (z : Fin 2) (p : Fin 2048) (b : Fin 4)
    (g : Fin 8) (l : Fin 128) : EReal :=
  ∑ k : Fin 128, proj x w b p ⟨4096 + (g.val * 128 + k.val), by omega⟩
    * (if z = 0 then Ideal.cos (angle k.val l.val) else -Ideal.sin (angle k.val l.val))

section Kernel
open Cert.InProjIdeal Cert.InProjIdeal.Gen

/-! ## The final arrays block by block -/

section Blocks
variable {F : FTy → Type} [FloatOps F]
variable (m : (ℓ : Loc nD τ sig) → Buf (Elt F) ℓ) (ρ : Dev nD → PrngReg) (c : Dev nD)

abbrev dat := dats m (ok m) 0 c

theorem outs3 (t : Fin (cfgM m (ok m)).N) :
    (outsAt0 m (ok m) c t.val t.isLt).1 = k0_pay1 (iblk m (ok m) c 0 t) (iblk m (ok m) c 1 t) := by
  by_cases h : t.val % 9 = 8
  · rw [outsAt0_B m (ok m) c t h]
    dsimp only
    exact out_B_3_eq ..
  · rw [outsAt0_A m (ok m) c t h]
    dsimp only
    exact out_A_3_eq ..

theorem flushed3 (t : Fin (cfgM m (ok m)).N) :
    (dat m c).flushed 3 t = ((cfgM m (ok m)).win 3).cut (grid0.coords t) (k0_pay1 (iblk m (ok m) c 0 t) (iblk m (ok m) c 1 t)) := by
  show ((cfgM m (ok m)).win 3).cut (grid0.coords t) ((dat m c).after 3 t) = _
  rw [after0_3, outs3]

theorem idx_inj3 : ∀ t t' : Fin grid0.N, cc0_transform_3 (grid0.coords t) = cc0_transform_3 (grid0.coords t') → t = t' := by
  intro t t' h
  have h0 := congrFun h (0 : Fin 2)
  have h1 := congrFun h (1 : Fin 2)
  have f := (index_facts t).2.2.2.1
  have f' := (index_facts t').2.2.2.1
  exact Fin.ext (by omega)

theorem idx_inj4 : ∀ t t' : Fin grid0.N, t.val % 9 = 8 → t'.val % 9 = 8 →
    cc0_transform_4 (grid0.coords t) = cc0_transform_4 (grid0.coords t') → t = t' := by
  intro t t' e e' h
  have h1 := congrFun h (1 : Fin 3)
  have h2 := congrFun h (2 : Fin 3)
  have f := (index_facts t).2.2.2.2
  have f' := (index_facts t').2.2.2.2
  exact Fin.ext (by omega)

theorem blocks3 (t : Fin (cfgM m (ok m)).N) :
    (((cfgM m (ok m)).win 3).blk t).view.read (Elt F) ((dat m c).arrAt 3 (cfgM m (ok m)).N) = (dat m c).flushed 3 t :=
  (dat m c).read_blk_arrAt_eq_flushed 3
    (fun t t' _ _ hne => ((cfgM m (ok m)).win 3).disjoint_blk fun h => hne (idx_inj3 t t' h)) _ t t.isLt (flush0_3 _ t)

theorem blocks4 (t : Fin (cfgM m (ok m)).N) (ht : t.val % 9 = 8) :
    (((cfgM m (ok m)).win 4).blk t).view.read (Elt F) ((dat m c).arrAt 4 (cfgM m (ok m)).N) = (dat m c).flushed 4 t :=
  (dat m c).read_blk_arrAt_eq_flushed 4
    (fun t t' hf hf' hne => ((cfgM m (ok m)).win 4).disjoint_blk fun h => hne (idx_inj4 t t' ((flush0_4 _ t).mp hf) ((flush0_4 _ t').mp hf') h))
    _ t t.isLt ((flush0_4 _ t).mpr ht)

/-- The run with the two result arrays named and the arguments unchanged. -/
theorem run_blocks : θ_run defs (onTc (τ := τ) (main (F := F))) ⟨m, fun _ => 0, ρ⟩ fun r => ∀ c : Dev nD,
      r.2.mem ((c : Thread nD τ).loc main_v20_0) = (dat m c).arrAt 3 (cfgM m (ok m)).N
      ∧ r.2.mem ((c : Thread nD τ).loc main_v20_1) = (dat m c).arrAt 4 (cfgM m (ok m)).N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1 3, (h c).1 4,
      ((h c).2 main_arg0 (by decide : main_arg0 ∈ Pipeline.restRefs sig spec0)).trans (V_main_arg0 m c),
      ((h c).2 main_arg1 (by decide : main_arg1 ∈ Pipeline.restRefs sig spec0)).trans (V_main_arg1 m c)⟩)
    (run_main m ρ (ok m))

end Blocks

variable (m : (ℓ : Loc nD τ sig) → Buf (Elt Ideal) ℓ) (c : Dev nD)

theorem outs4 (t : Fin (cfgM m (ok m)).N) (ht : t.val % 9 = 8) :
    (outsAt0 m (ok m) c t.val t.isLt).2
      = groups (k0_pay1 (F := Ideal) (iblk m (ok m) c 0 t) (iblk m (ok m) c 1 t)) (iblk m (ok m) c 2 t) := by
  rw [outsAt0_B m (ok m) c t ht]
  dsimp only
  exact funext fun y => out_B_4_eq ..

theorem flushed4 (t : Fin (cfgM m (ok m)).N) (ht : t.val % 9 = 8) :
    (dat m c).flushed 4 t = ((cfgM m (ok m)).win 4).cut (grid0.coords t)
      (groups (k0_pay1 (F := Ideal) (iblk m (ok m) c 0 t) (iblk m (ok m) c 1 t)) (iblk m (ok m) c 2 t)) := by
  show ((cfgM m (ok m)).win 4).cut (grid0.coords t) ((dat m c).after 4 t) = _
  rw [after0_4, outs4 m c t ht]

/-- A point's product, of the arguments. -/
theorem pay_at (t : Fin (cfgM m (ok m)).N) (r j : Fin 1024) (b : Fin 4) (p : Fin 2048) (n : Fin 9248)
    (hr : t.val / 9 * 1024 + r.val = b.val * 2048 + p.val) (hn : n.val = start (t.val % 9) + j.val) :
    k0_pay1 (F := Ideal) (iblk m (ok m) c 0 t) (iblk m (ok m) c 1 t) (ix2 r j)
      = proj (m ((c : Thread nD τ).loc main_arg0)) (m ((c : Thread nD τ).loc main_arg1)) b p n := by
  refine (pay1_apply _ _ r j).trans (Finset.sum_congr rfl fun d _ => congrArg₂ (· * ·) ?_ ?_)
  · refine (blk_at0 (adm m (ok m)) t (V m c main_v17) r d).trans ((congrFun (V_rows m c) _).trans (Eq.trans ?_ (rowsHost_apply _ b p d)))
    exact congrArg (fun q => rowsHost (m ((c : Thread nD τ).loc main_arg0)) (ix2 q d)) (Fin.ext hr)
  · refine (blk_at1 (adm m (ok m)) t (tbl_at m) (V m c main_v19) j d).trans ((congrFun (V_weight m c) _).trans (Eq.trans ?_ (weightHost_apply _ n d)))
    exact congrArg (fun q => weightHost (m ((c : Thread nD τ).loc main_arg1)) (ix2 q d)) (Fin.ext hn.symm)

/-- **The first array at an index.** -/
theorem kernel_proj (b : Fin 4) (p : Fin 2048) (n : Fin 9216) :
    ((dat m c).arrAt 3 (cfgM m (ok m)).N : FVec Ideal S8192x9216 .f32) (ix2 (flat b p) n)
      = proj (m ((c : Thread nD τ).loc main_arg0)) (m ((c : Thread nD τ).loc main_arg1)) b p (col n) := by
  have hN : (cfgM m (ok m)).N = 72 := N_0
  let t : Fin (cfgM m (ok m)).N := ⟨(b.val * 2 + p.val / 1024) * 9 + n.val / 1024, by omega⟩
  have ht : t.val = (b.val * 2 + p.val / 1024) * 9 + n.val / 1024 := rfl
  let r : Fin 1024 := ⟨p.val % 1024, by omega⟩
  let j : Fin 1024 := ⟨n.val % 1024, by omega⟩
  have h := congrFun (blocks3 m c t) (ix2 r j)
  have hi : (dat m c).arrAt 3 (cfgM m (ok m)).N (ix2 (flat b p) n)
      = (((cfgM m (ok m)).win 3).blk t).view.read (Elt Ideal) ((dat m c).arrAt 3 (cfgM m (ok m)).N) (ix2 r j) := by
    generalize (dat m c).arrAt 3 (cfgM m (ok m)).N = A
    refine congrArg A (funext fun a => Fin.ext ?_)
    have := (index_facts t).2.2.2.1
    match a with
    | ⟨0, _⟩ => show b.val * 2048 + p.val = cc0_transform_3 (grid0.coords t) (0 : Fin 2) * 1024 + 1 * (p.val % 1024); omega
    | ⟨1, _⟩ => show n.val = cc0_transform_3 (grid0.coords t) (1 : Fin 2) * 1024 + 1 * (n.val % 1024); omega
  rw [hi, h, flushed3]
  refine pay_at m c t r j b p (col n) ?_ ?_
  · show t.val / 9 * 1024 + p.val % 1024 = _; omega
  · show (if n.val < 4096 then 5152 + n.val else n.val - 4096) = start (t.val % 9) + n.val % 1024
    unfold start
    split <;> split <;> omega

/-- The table's entry that plane `z` takes. -/
theorem circle_entry (z : Fin 2) (g : Fin 8) (k l : Fin 128) :
    circleTable (ix2 k ⟨128 * z.val + (g.val * 128 + l.val) % 128, by omega⟩)
      = if z = 0 then Ideal.cos (angle k.val l.val) else -Ideal.sin (angle k.val l.val) := by
  match z with
  | ⟨0, _⟩ =>
    refine Eq.trans (congrArg (fun q => circleTable (ix2 k q)) (Fin.ext ?_)) ((circle_cos k l).trans (if_pos rfl).symm)
    show 128 * 0 + (g.val * 128 + l.val) % 128 = l.val
    omega
  | ⟨1, _⟩ =>
    refine Eq.trans (congrArg (fun q => circleTable (ix2 k q)) (Fin.ext ?_)) ((circle_sin k l).trans (if_neg (show ¬(1 : Fin 2) = 0 by decide)).symm)
    show 128 * 1 + (g.val * 128 + l.val) % 128 = 128 + l.val
    omega

/-- **The second array at an index.** -/
theorem kernel_transform (z : Fin 2) (p : Fin 2048) (b : Fin 4) (g : Fin 8) (l : Fin 128) :
    ((dat m c).arrAt 4 (cfgM m (ok m)).N : FVec Ideal S2x2048x4096 .bf16) (ix3 z p ⟨b.val * 1024 + (g.val * 128 + l.val), by omega⟩)
      = transformed (m ((c : Thread nD τ).loc main_arg0)) (m ((c : Thread nD τ).loc main_arg1)) z p b g l := by
  have hN : (cfgM m (ok m)).N = 72 := N_0
  let t : Fin (cfgM m (ok m)).N := ⟨(b.val * 2 + p.val / 1024) * 9 + 8, by omega⟩
  have ht : t.val = (b.val * 2 + p.val / 1024) * 9 + 8 := rfl
  have ht8 : t.val % 9 = 8 := by omega
  let r : Fin 1024 := ⟨p.val % 1024, by omega⟩
  let j : Fin 1024 := ⟨g.val * 128 + l.val, by omega⟩
  have h := congrFun (blocks4 m c t ht8) (ix3 z r j)
  have hi : (dat m c).arrAt 4 (cfgM m (ok m)).N (ix3 z p ⟨b.val * 1024 + (g.val * 128 + l.val), by omega⟩)
      = (((cfgM m (ok m)).win 4).blk t).view.read (Elt Ideal) ((dat m c).arrAt 4 (cfgM m (ok m)).N) (ix3 z r j) := by
    generalize (dat m c).arrAt 4 (cfgM m (ok m)).N = A
    refine congrArg A (funext fun a => Fin.ext ?_)
    have := (index_facts t).2.2.2.2
    match a with
    | ⟨0, _⟩ => show z.val = cc0_transform_4 (grid0.coords t) (0 : Fin 3) * 2 + 1 * z.val; omega
    | ⟨1, _⟩ => show p.val = cc0_transform_4 (grid0.coords t) (1 : Fin 3) * 1024 + 1 * (p.val % 1024); omega
    | ⟨2, _⟩ =>
      show b.val * 1024 + (g.val * 128 + l.val) = cc0_transform_4 (grid0.coords t) (2 : Fin 3) * 1024 + 1 * (g.val * 128 + l.val); omega
  rw [hi, h, flushed4 m c t ht8]
  show groups (k0_pay1 (F := Ideal) (iblk m (ok m) c 0 t) (iblk m (ok m) c 1 t)) (iblk m (ok m) c 2 t) (ix3 z r j) = _
  refine Finset.sum_congr rfl fun k _ => congrArg₂ (· * ·) ?_ ?_
  · refine pay_at m c t r ⟨128 * ((g.val * 128 + l.val) / 128) + k.val, by omega⟩ b p ⟨4096 + (g.val * 128 + k.val), by omega⟩ ?_ ?_
    · show t.val / 9 * 1024 + p.val % 1024 = _; omega
    · show 4096 + (g.val * 128 + k.val) = start (t.val % 9) + (128 * ((g.val * 128 + l.val) / 128) + k.val)
      rw [ht8, show start 8 = 4096 from rfl]
      omega
  · exact (blk_at2 (adm m (ok m)) t (V m c main_v15) k _).trans ((congrFun (V_circle m c) _).trans (circle_entry z g k l))

end Kernel

section Reference
open Cert.InProjRefIdeal Cert.InProjRefIdeal.Read

variable (x : FVec Ideal S4x2048x2048 .f32) (w : FVec Ideal S2048x9248 .f32)

theorem ref_gates (b : Fin 4) (p : Fin 2048) (n : Fin 4096) :
    val_main_v24 (F := Ideal) x w (ix2 ⟨b.val * 2048 + p.val, by omega⟩ ⟨n.val, by omega⟩) = proj x w b p ⟨5152 + n.val, by omega⟩ := by
  pointwise [val_main_v24, val_main_v23, val_main_v22, val_main_v21, val_main_v0]

theorem ref_rest (b : Fin 4) (p : Fin 2048) (n : Fin 5120) :
    val_main_v24 (F := Ideal) x w (ix2 ⟨b.val * 2048 + p.val, by omega⟩ ⟨4096 + n.val, by omega⟩) = proj x w b p ⟨n.val, by omega⟩ := by
  pointwise [val_main_v24, val_main_v23, val_main_v22, val_main_v21, val_main_v0]

/-- **The reference's first result at an index.** -/
theorem ref_proj (b : Fin 4) (p : Fin 2048) (n : Fin 9216) : val_main_v24 (F := Ideal) x w (ix2 (flat b p) n) = proj x w b p (col n) := by
  unfold col
  by_cases h : n.val < 4096
  · simp only [if_pos h]
    exact ref_gates x w b p ⟨n.val, h⟩
  · simp only [if_neg h]
    refine Eq.trans (congrArg (fun q => val_main_v24 (F := Ideal) x w (ix2 (flat b p) q)) (Fin.ext ?_)) (ref_rest x w b p ⟨n.val - 4096, by omega⟩)
    show n.val = 4096 + (n.val - 4096)
    omega

theorem ref_re (p : Fin 2048) (b : Fin 4) (g : Fin 8) (l : Fin 128) :
    val_main_v28 (F := Ideal) x w (ix3 0 p ⟨b.val * 1024 + (g.val * 128 + l.val), by omega⟩)
      = ∑ k : Fin 128, Ideal.cos (angle k.val l.val) * proj x w b p ⟨4096 + (g.val * 128 + k.val), by omega⟩ := by
  pointwise [val_main_v28, val_main_v27, val_main_v26, val_main_v25, val_main_v15, val_main_v14, val_main_v13, val_main_v12, val_main_v11, val_main_v10,
    val_main_v9, val_main_v8, val_main_v7, val_main_v6, val_main_v5, val_main_v4, val_main_v3, val_main_v2, val_main_v1, val_main_v0,
    val_main_cst, val_main_cst_0, val_main_cst_1]

theorem ref_im (p : Fin 2048) (b : Fin 4) (g : Fin 8) (l : Fin 128) :
    val_main_v28 (F := Ideal) x w (ix3 1 p ⟨b.val * 1024 + (g.val * 128 + l.val), by omega⟩)
      = ∑ k : Fin 128, -Ideal.sin (angle k.val l.val) * proj x w b p ⟨4096 + (g.val * 128 + k.val), by omega⟩ := by
  pointwise [val_main_v28, val_main_v27, val_main_v26, val_main_v25, val_main_v20, val_main_v19, val_main_v18, val_main_v17, val_main_v16, val_main_v11, val_main_v10,
    val_main_v9, val_main_v8, val_main_v7, val_main_v6, val_main_v5, val_main_v4, val_main_v3, val_main_v2, val_main_v1, val_main_v0,
    val_main_cst, val_main_cst_0, val_main_cst_1]

/-- **The reference's second result at an index.** -/
theorem ref_transform (z : Fin 2) (p : Fin 2048) (b : Fin 4) (g : Fin 8) (l : Fin 128) :
    val_main_v28 (F := Ideal) x w (ix3 z p ⟨b.val * 1024 + (g.val * 128 + l.val), by omega⟩) = transformed x w z p b g l := by
  match z with
  | ⟨0, _⟩ => exact (ref_re x w p b g l).trans (Finset.sum_congr rfl fun k _ => (mul_comm _ _).trans (congrArg _ (if_pos rfl).symm))
  | ⟨1, _⟩ => exact (ref_im x w p b g l).trans (Finset.sum_congr rfl fun k _ => (mul_comm _ _).trans (congrArg _ (if_neg (show ¬(1 : Fin 2) = 0 by decide)).symm))

end Reference

end Cert.InProjProof

end
-- ==== Proof.InProjClaim.lean ====
/-
  The input projection's claims: the reference's frame, and that the two compute the same arrays.
-/
module

public import proofs.«01_k».proof.Defs
public import proofs.«01_k».proof.Proof.InProjValue
public import proofs.«01_k».proof.Proof.Gen.InProjRefIdeal

@[expose] public section

noncomputable section

namespace Cert.InProjProof

open Cert.Rows Idealize.ShloMosaic Idealize.ShloMosaic.TcCoe Idealize.SL.Sem

theorem frame_ref : Cert.quiescent_InProjRefIdeal := fun m ρ _ =>
  (θ_run Cert.InProjRefIdeal.defs _ _).mono (fun r h => ⟨fun c => (h c).2.2, sem_eq_zero_of_no_sems (by decide) r.2⟩)
    (Cert.InProjRefIdeal.Value.run (F := Ideal) m ρ)

theorem algebraic : Cert.algebraic_InProjIdeal_InProjRefIdeal := by
  intro m ρ m' ρ' _ hagree
  refine ⟨fun c => (dat m c).arrAt 3 (Cert.InProjIdeal.Gen.cfgM m (ok m)).N, fun c => (dat m c).arrAt 4 (Cert.InProjIdeal.Gen.cfgM m (ok m)).N,
    run_blocks (F := Ideal) m ρ, ?_⟩
  refine (θ_run Cert.InProjRefIdeal.defs _ _).mono (fun _ h c => ?_) (Cert.InProjRefIdeal.Value.run (F := Ideal) m' ρ')
  obtain ⟨h0, h1⟩ := hagree c
  refine ⟨(h c).1.trans ?_, (h c).2.1.trans ?_, (h c).2.2⟩
  · rw [h0, h1]
    refine (Cert.InProjRefIdeal.Read.val_main_v24_eq _ _).trans (funext fun i => ?_)
    obtain ⟨R, n, rfl⟩ : ∃ (R : Fin 8192) (n : Fin 9216), i = ix2 R n := ⟨i 0, i 1, eq_ix2 i⟩
    obtain ⟨b, p, rfl⟩ : ∃ (b : Fin 4) (p : Fin 2048), R = flat b p := ⟨bat R, pos R, Fin.ext (by show R.val = R.val / 2048 * 2048 + R.val % 2048; omega)⟩
    exact (ref_proj _ _ b p n).trans (kernel_proj m c b p n).symm
  · rw [h0, h1]
    refine (Cert.InProjRefIdeal.Read.val_main_v28_eq _ _).trans (funext fun i => ?_)
    obtain ⟨z, p, q, rfl⟩ : ∃ (z : Fin 2) (p : Fin 2048) (q : Fin 4096), i = ix3 z p q := ⟨i 0, i 1, i 2, eq_ix3 i⟩
    obtain ⟨b, g, l, rfl⟩ : ∃ (b : Fin 4) (g : Fin 8) (l : Fin 128), q = ⟨b.val * 1024 + (g.val * 128 + l.val), by omega⟩ :=
      ⟨⟨q.val / 1024, by omega⟩, ⟨q.val % 1024 / 128, by omega⟩, ⟨q.val % 128, by omega⟩, Fin.ext (by
        show q.val = q.val / 1024 * 1024 + (q.val % 1024 / 128 * 128 + q.val % 128); omega)⟩
    exact (ref_transform _ _ z p b g l).trans (kernel_transform m c z p b g l).symm

end Cert.InProjProof

end
-- ==== Proof.DeltaClaim.lean ====
/-
  The frame of the delta rule's reference: its stretches of operations before its loop, in it and after it write none of its
  arguments.
-/
module

public import proofs.«01_k».proof.Defs
public import proofs.«01_k».proof.Proof.Gen.DeltaRefIdeal.Run

@[expose] public section

noncomputable section

namespace Cert.DeltaProof

open Cert.DeltaRefIdeal Cert.DeltaRefIdeal.Gen Cert.DeltaRefIdeal.Value
open Idealize.ShloMosaic Idealize.ShloMosaic.TcCoe Idealize.ShloMosaic.StableHlo Idealize.SL.Sem

variable {F : FTy → Type} [FloatOps F]

/-- The arguments. -/
abbrev args : List (Ref sig .tc) := [main_arg0, main_arg1, main_arg2, main_arg3, main_arg4, main_arg5, main_arg6, main_arg7, main_arg8,
  main_arg9, main_arg10, main_arg11]

/-- A list of stretches leaves the arguments alone. -/
def Spares (items : List (List (HloOp τ sig (Elt F)))) : Prop :=
  ∀ (V : Valuation τ sig (Elt F)), ∀ r ∈ args, afterL items V (Proc.devRef .tc r) = V (Proc.devRef .tc r)

theorem Spares.nil : Spares ([] : List (List (HloOp τ sig (Elt F)))) := fun _ _ _ => rfl

/-- One more stretch, that writes no argument. -/
theorem Spares.cons {ops : List (HloOp τ sig (Elt F))} {W : List (Ref sig .tc)} {rest : List (List (HloOp τ sig (Elt F)))}
    (hW : ops.Forall fun op => op.writes ⊆ (W.map (Proc.devRef (τ := τ) .tc)).toFinset) (hr : ∀ r ∈ args, r ∉ W)
    (h : Spares rest) : Spares (ops :: rest) := fun V r hm =>
  (h (after ops V) r hm).trans (after_of_writes_sub ops V hW (hr r hm))

theorem before_loop : Spares (preI (F := F)) :=
  .cons hostOps0_writes (by decide +kernel) <| .cons hostOps0_1_writes (by decide +kernel) <|
  .cons hostOps0_2_writes (by decide +kernel) <| .cons hostOps0_3_writes (by decide +kernel) <|
  .cons hostOps0_4_writes (by decide +kernel) <| .cons hostOps0_5_writes (by decide +kernel) <|
  .cons hostOps0_6_writes (by decide +kernel) <| .cons hostOps0_7_writes (by decide +kernel) <|
  .cons hostOps0_8_writes (by decide +kernel) <| .cons hostOps0_9_writes (by decide +kernel) <|
  .cons hostOps0_10_writes (by decide +kernel) <| .cons hostOps0_11_writes (by decide +kernel) <|
  .cons hostOps0_12_writes (by decide +kernel) <| .cons hostOps0_13_writes (by decide +kernel) <|
  .cons hostOps0_14_writes (by decide +kernel) <| .cons hostOps0_15_writes (by decide +kernel) <|
  .cons hostOps0_16_writes (by decide +kernel) <| .cons hostOps0_17_writes (by decide +kernel) <|
  .cons hostOps0_18_writes (by decide +kernel) .nil

theorem trip : Spares (condOps :: bodyI (F := F)) :=
  .cons condOps_writes (by decide +kernel) <| .cons while0Ops0_writes (by decide +kernel) <|
  .cons while0Ops0_1_writes (by decide +kernel) <| .cons while0Ops0_2_writes (by decide +kernel) <|
  .cons while0Ops0_3_writes (by decide +kernel) <| .cons while0Ops0_4_writes (by decide +kernel) <|
  .cons while0Ops0_5_writes (by decide +kernel) <| .cons while0Ops0_6_writes (by decide +kernel) <|
  .cons while0Ops0_7_writes (by decide +kernel) .nil

/-- The stretches after the loop: each writes what is listed, no argument among them. -/
theorem after_loop : Spares (condOps :: postI (F := F)) :=
  .cons condOps_writes (by decide +kernel) <|
  .cons (W := [main_v131, main_v132, main_v133, main_v134, main_v135]) (forall_writes_sub_of_map rfl) (by decide +kernel) <|
  .cons (W := [main_v136]) (forall_writes_sub_of_map rfl) (by decide +kernel) <|
  .cons (W := [main_v137, main_v138, main_v139, main_cst_12, main_v140, main_v141, main_cst_13, main_v142, main_v143, main_cst_14,
    main_v144, main_v145, main_v146, main_v147, main_v148, main_v149, main_v150, main_v151, main_v152])
    (forall_writes_sub_of_map rfl) (by decide +kernel) <|
  .cons (W := [main_call16_v0, main_call16_v1, main_call16_cst, main_call16_v2, main_call16_v3, main_call16_cst_0, main_call16_v4,
    main_call16_v5, main_v153]) (forall_writes_sub_of_map rfl) (by decide +kernel) <|
  .cons (W := [main_v154, main_v155, main_v156, main_v157, main_v158, main_v159, main_v160, main_v161])
    (forall_writes_sub_of_map rfl) (by decide +kernel) .nil

variable (m : (ℓ : Loc nD τ sig) → Buf (Elt F) ℓ)

/-- Any number of trips leave the arguments alone. -/
theorem trips (c : Dev nD) (r : Ref sig .tc) (hr : r ∈ args) : ∀ k, atK m k c (Proc.devRef .tc r) = m (c, Proc.devRef .tc r)
  | 0 => before_loop (launchContents m c) r hr
  | k + 1 => (trip (atK m k c) r hr).trans (trips c r hr k)

theorem kept (n : ℕ) (c : Dev nD) (r : Ref sig .tc) (hr : r ∈ args) :
    finalContents condOps preI bodyI postI n m c (Proc.devRef .tc r) = m (c, Proc.devRef .tc r) := by
  have h := after_loop (atK m n c) r hr
  rw [afterL_cons] at h
  exact h.trans (trips m c r hr n)

theorem frame_ref : Cert.quiescent_DeltaRefIdeal := fun m ρ _ =>
  (θ_run Cert.DeltaRefIdeal.defs _ _).mono (fun r h => ⟨fun c =>
    have k (b : Ref sig .tc) (hb : b ∈ args) (hs : (Proc.devRef .tc b : DevRef τ sig).isScoped = false) :
        r.2.mem ((c.tc : Thread nD τ).loc b) = m ((c.tc : Thread nD τ).loc b) := (h c b hs).trans (kept m 2048 c b hb)
    ⟨k main_arg0 (by decide) rfl, k main_arg1 (by decide) rfl, k main_arg2 (by decide) rfl, k main_arg3 (by decide) rfl,
      k main_arg4 (by decide) rfl, k main_arg5 (by decide) rfl, k main_arg6 (by decide) rfl, k main_arg7 (by decide) rfl,
      k main_arg8 (by decide) rfl, k main_arg9 (by decide) rfl, k main_arg10 (by decide) rfl, k main_arg11 (by decide) rfl⟩,
    sem_eq_zero_of_no_sems (by decide) r.2⟩)
    (run_fold (F := Ideal) m ρ)

end Cert.DeltaProof

end
-- ==== Proof.DeltaSame.lean ====
/-
  The delta kernel's program and its idealization have the same text: the same body table, and so the same programs.
-/
module

public import proofs.«01_k».proof.Proof.Gen.Delta
public import proofs.«01_k».proof.Proof.Gen.DeltaIdeal

@[expose] public section

set_option maxRecDepth 16384

noncomputable section

namespace Cert.DeltaProof

open Idealize.ShloMosaic

variable {F : FTy → Type} [FloatOps F]

set_option maxHeartbeats 20000000 in
/-- The program's body table is its idealization's. -/
theorem bodies_eq : Cert.Delta.defs₀ (F := F) = Cert.DeltaIdeal.defs₀ (F := F) := by
  unfold Cert.Delta.defs₀ Cert.DeltaIdeal.defs₀
  refine congrArg Defs.onTc (funext fun p => funext fun x => ?_)
  match p, x with
  | 0, (t, s) => rfl

set_option maxHeartbeats 4000000 in
theorem defs_eq : Cert.Delta.defs (F := F) = Cert.DeltaIdeal.defs (F := F) := by
  unfold Cert.Delta.defs Cert.DeltaIdeal.defs
  exact congrArg (Pipeline.defs (Cert.DeltaIdeal.pcfgs (F := F))) bodies_eq

end Cert.DeltaProof

end
-- ==== Proof.DeltaFrame.lean ====
/-
  The delta kernel's frame: every run of it ends, with its arguments as they were and every counter at zero. Written over any
  floats, so that it serves the program and its idealization alike; what the outputs hold is not named.
-/
module

public import proofs.«01_k».proof.Defs
public import proofs.«01_k».proof.Proof.DeltaSame
public import proofs.«01_k».proof.Proof.Gen.DeltaIdeal.Frame.RunA
public import Idealize.ShloMosaic.Lib.Claim

@[expose] public section

set_option maxRecDepth 16384

noncomputable section

namespace Cert.DeltaProof

open Cert.DeltaIdeal Cert.DeltaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The six outputs, of whose contents nothing is said. -/
def unsaid : Fin 21 → Bool := fun w => w.val == 15 || w.val == 16 || w.val == 17 || w.val == 18 || w.val == 19 || w.val == 20

/-- What the pipeline's buffers hold after the body: an input its block, an output anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨w + 15, h⟩ => Pipeline.Dat.unnamed (cfg := cfg0) ⟨w + 15, h⟩ t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare d)
    ∗ (∃ d, owns (c : Thread nD τ) (ms0_16 t) fullShare d)
    ∗ (∃ d, owns (c : Thread nD τ) (ms0_17 t) fullShare d)
    ∗ (∃ d, owns (c : Thread nD τ) (ms0_18 t) fullShare d)
    ∗ (∃ d, owns (c : Thread nD τ) (ms0_19 t) fullShare d)
    ∗ (∃ d, owns (c : Thread nD τ) (ms0_20 t) fullShare d))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (∃ d, owns (c : Thread nD τ) (ms0_15 t) fullShare d)
    ∗ (∃ d, owns (c : Thread nD τ) (ms0_16 t) fullShare d)
    ∗ (∃ d, owns (c : Thread nD τ) (ms0_17 t) fullShare d)
    ∗ (∃ d, owns (c : Thread nD τ) (ms0_18 t) fullShare d)
    ∗ (∃ d, owns (c : Thread nD τ) (ms0_19 t) fullShare d)
    ∗ (∃ d, owns (c : Thread nD τ) (ms0_20 t) fullShare d))

/-- An input's buffer ends holding its block. -/
theorem leaves_0 (c : Dev nD) (t : Fin cfg0.N) : (dats m 0 c).leavesExact 0 t = owns (c : Thread nD τ) (ms0_0 t) fullShare (iblk m c 0 t) := by
  unfold Dat.leavesExact; rw [show cfg0.idle 0 (cfg0.grid.coords t) = false from rfl, after_0]
theorem leaves_1 (c : Dev nD) (t : Fin cfg0.N) : (dats m 0 c).leavesExact 1 t = owns (c : Thread nD τ) (ms0_1 t) fullShare (iblk m c 1 t) := by
  unfold Dat.leavesExact; rw [show cfg0.idle 1 (cfg0.grid.coords t) = false from rfl, after_1]
theorem leaves_2 (c : Dev nD) (t : Fin cfg0.N) : (dats m 0 c).leavesExact 2 t = owns (c : Thread nD τ) (ms0_2 t) fullShare (iblk m c 2 t) := by
  unfold Dat.leavesExact; rw [show cfg0.idle 2 (cfg0.grid.coords t) = false from rfl, after_2]
theorem leaves_3 (c : Dev nD) (t : Fin cfg0.N) : (dats m 0 c).leavesExact 3 t = owns (c : Thread nD τ) (ms0_3 t) fullShare (iblk m c 3 t) := by
  unfold Dat.leavesExact; rw [show cfg0.idle 3 (cfg0.grid.coords t) = false from rfl, after_3]
theorem leaves_4 (c : Dev nD) (t : Fin cfg0.N) : (dats m 0 c).leavesExact 4 t = owns (c : Thread nD τ) (ms0_4 t) fullShare (iblk m c 4 t) := by
  unfold Dat.leavesExact; rw [show cfg0.idle 4 (cfg0.grid.coords t) = false from rfl, after_4]
theorem leaves_5 (c : Dev nD) (t : Fin cfg0.N) : (dats m 0 c).leavesExact 5 t = owns (c : Thread nD τ) (ms0_5 t) fullShare (iblk m c 5 t) := by
  unfold Dat.leavesExact; rw [show cfg0.idle 5 (cfg0.grid.coords t) = false from rfl, after_5]
theorem leaves_6 (c : Dev nD) (t : Fin cfg0.N) : (dats m 0 c).leavesExact 6 t = owns (c : Thread nD τ) (ms0_6 t) fullShare (iblk m c 6 t) := by
  unfold Dat.leavesExact; rw [show cfg0.idle 6 (cfg0.grid.coords t) = false from rfl, after_6]
theorem leaves_7 (c : Dev nD) (t : Fin cfg0.N) : (dats m 0 c).leavesExact 7 t = owns (c : Thread nD τ) (ms0_7 t) fullShare (iblk m c 7 t) := by
  unfold Dat.leavesExact; rw [show cfg0.idle 7 (cfg0.grid.coords t) = false from rfl, after_7]
theorem leaves_8 (c : Dev nD) (t : Fin cfg0.N) : (dats m 0 c).leavesExact 8 t = owns (c : Thread nD τ) (ms0_8 t) fullShare (iblk m c 8 t) := by
  unfold Dat.leavesExact; rw [show cfg0.idle 8 (cfg0.grid.coords t) = false from rfl, after_8]
theorem leaves_9 (c : Dev nD) (t : Fin cfg0.N) : (dats m 0 c).leavesExact 9 t = owns (c : Thread nD τ) (ms0_9 t) fullShare (iblk m c 9 t) := by
  unfold Dat.leavesExact; rw [show cfg0.idle 9 (cfg0.grid.coords t) = false from rfl, after_9]
theorem leaves_10 (c : Dev nD) (t : Fin cfg0.N) : (dats m 0 c).leavesExact 10 t = owns (c : Thread nD τ) (ms0_10 t) fullShare (iblk m c 10 t) := by
  unfold Dat.leavesExact; rw [show cfg0.idle 10 (cfg0.grid.coords t) = false from rfl, after_10]
theorem leaves_11 (c : Dev nD) (t : Fin cfg0.N) : (dats m 0 c).leavesExact 11 t = owns (c : Thread nD τ) (ms0_11 t) fullShare (iblk m c 11 t) := by
  unfold Dat.leavesExact; rw [show cfg0.idle 11 (cfg0.grid.coords t) = false from rfl, after_11]
theorem leaves_12 (c : Dev nD) (t : Fin cfg0.N) : (dats m 0 c).leavesExact 12 t = owns (c : Thread nD τ) (ms0_12 t) fullShare (iblk m c 12 t) := by
  unfold Dat.leavesExact; rw [show cfg0.idle 12 (cfg0.grid.coords t) = false from rfl, after_12]
theorem leaves_13 (c : Dev nD) (t : Fin cfg0.N) : (dats m 0 c).leavesExact 13 t = owns (c : Thread nD τ) (ms0_13 t) fullShare (iblk m c 13 t) := by
  unfold Dat.leavesExact; rw [show cfg0.idle 13 (cfg0.grid.coords t) = false from rfl, after_13]
theorem leaves_14 (c : Dev nD) (t : Fin cfg0.N) : (dats m 0 c).leavesExact 14 t = owns (c : Thread nD τ) (ms0_14 t) fullShare (iblk m c 14 t) := by
  unfold Dat.leavesExact; rw [show cfg0.idle 14 (cfg0.grid.coords t) = false from rfl, after_14]

/-- A buffer written piece by piece is held at some contents. -/
theorem holds {c : Thread nD τ} {sp : Space} {sh : Shape} {e : EltTy} {b : Memref sig c.2.kind sp sh e} {L : List (View.Piece (Elt F) sh e)} :
    (iprop(∃ f, b.view.loc c ↦[b.view.set]{fullShare} b.view.writes (Elt F) f L) : sProp 𝕄) ⊢ iprop(∃ d, owns c b fullShare d) := by
  iintro ⟨%f, H⟩
  iexists _; unfold owns; iexists _; isplitr
  swap; · iexact H
  ipureintro; rfl

set_option maxHeartbeats 6400000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0_of m (dats m 0 c) (A_eq m c 0) (after_0 m c),
    before0_1_of m (dats m 0 c) (A_eq m c 1) (after_1 m c),
    before0_2_of m (dats m 0 c) (A_eq m c 2) (after_2 m c),
    before0_3_of m (dats m 0 c) (A_eq m c 3) (after_3 m c),
    before0_4_of m (dats m 0 c) (A_eq m c 4) (after_4 m c),
    before0_5_of m (dats m 0 c) (A_eq m c 5) (after_5 m c),
    before0_6_of m (dats m 0 c) (A_eq m c 6) (after_6 m c),
    before0_7_of m (dats m 0 c) (A_eq m c 7) (after_7 m c),
    before0_8_of m (dats m 0 c) (A_eq m c 8) (after_8 m c),
    before0_9_of m (dats m 0 c) (A_eq m c 9) (after_9 m c),
    before0_10_of m (dats m 0 c) (A_eq m c 10) (after_10 m c),
    before0_11_of m (dats m 0 c) (A_eq m c 11) (after_11 m c),
    before0_12_of m (dats m 0 c) (A_eq m c 12) (after_12 m c),
    before0_13_of m (dats m 0 c) (A_eq m c 13) (after_13 m c),
    before0_14_of m (dats m 0 c) (A_eq m c 14) (after_14 m c)]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  rw [leaves_0, leaves_1, leaves_2, leaves_3, leaves_4, leaves_5, leaves_6, leaves_7, leaves_8, leaves_9, leaves_10, leaves_11, leaves_12, leaves_13, leaves_14]
  iintro ⟨⟨⟨HS0, HS1, HS2, HS3, HS4, HS5, HS6, HS7, HS8, HS9, HS10, HS11, HS12⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)).2.2.2.2.2.2.2.2.2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  isplitl [HS10]; · iexact HS10
  isplitl [HS11]; · iexact HS11
  isplitl [HS12]; · iexact HS12
  iintro ⟨H0, H1, H2, H3, H4, H5, H6, H7, H8, H9, H10, H11, H12, H13, H14, H15, H16, H17, H18, H19, H20, HS0, HS1, HS2, HS3, HS4, HS5, HS6, HS7, HS8, HS9, HS10, HS11, HS12⟩
  isplitl [HS0 HS1 HS2 HS3 HS4 HS5 HS6 HS7 HS8 HS9 HS10 HS11 HS12 Hg]
  · isplitl [HS0 HS1 HS2 HS3 HS4 HS5 HS6 HS7 HS8 HS9 HS10 HS11 HS12]
    · isplitl [HS0]; · iapply holds; iexact HS0
      isplitl [HS1]; · iapply holds; iexact HS1
      isplitl [HS2]; · iapply holds; iexact HS2
      isplitl [HS3]; · iapply holds; iexact HS3
      isplitl [HS4]; · iapply holds; iexact HS4
      isplitl [HS5]; · iapply holds; iexact HS5
      isplitl [HS6]; · iapply holds; iexact HS6
      isplitl [HS7]; · iapply holds; iexact HS7
      isplitl [HS8]; · iapply holds; iexact HS8
      isplitl [HS9]; · iapply holds; iexact HS9
      isplitl [HS10]; · iapply holds; iexact HS10
      isplitl [HS11]; · iapply holds; iexact HS11
      iapply holds; iexact HS12
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iapply holds; iexact H15
  isplitl [H16]; · iapply holds; iexact H16
  isplitl [H17]; · iapply holds; iexact H17
  isplitl [H18]; · iapply holds; iexact H18
  isplitl [H19]; · iapply holds; iexact H19
  iapply holds; iexact H20

theorem row (t : Fin cfg0.N) : defs₀ (F := F) .tc cfg0.body (cfg0.bodyArgs t (cfg0.slots t)) = bodyAt0 t := by
  unfold defs₀; rw [Defs.onTc_tc]

set_option maxHeartbeats 6400000 in
/-- The body at every point, as the pipeline asks it. -/
theorem obligation (c : Dev nD) : BodyObligation (dats (F := F) m 0 c) (defs₀ (F := F)) Variants.none () Set.univ unsaid := fun t => by
  rw [bigSep_W0, bigSep_W0, row]
  exact triple_restated (sound_body m c t) rfl .rfl fun _ => .rfl

set_option backward.isDefEq.respectTransparency.types false in
/-- The whole run: buffers outside the windows as the region found them, and every counter at zero. -/
theorem run_main : θ_run defs (onTc (τ := τ) (main (F := F))) (s₀ m ρ)
    (fun r => (Pipeline.RDat.FramePost (cfgs 0) (fun c => (dats m 0 c).toRForget unsaid) (V m)) r ∧ r.2.sem = fun _ => 0) :=
  Pipeline.θ_run_frame_forget_shared (Q' := _) cfgs (dats m) (0 : Fin 1) launch₀0 defs₀ Variants.none unsaid m ρ main
    (hbody := fun c => (obligation m c).loose) (hq := fun _ _ _ => rfl)
    (howed := fun _ _ => rfl) (V := V m) (hmain := hmain m Variants.none) (hA := A_eq m) (hΦ := fun _ _ => rfl)

/-- An input's array ends as the region found it. -/
theorem input_kept (c : Dev nD) (w : Fin cfg0.W) (hin : (cfg0.win w).isOut = false) (hw : unsaid w = false) {X : Buf (Elt F) ((cfg0.win w).arr.view.loc (c.tc : Thread nD τ))}
    (h : ((dats m 0 c).toRForget unsaid).ArrAt w cfg0.N X) : X = V m c (Pipeline.arrRef spec0 w) :=
  (((dats m 0 c).toRForget_arrAt_iff hw _ _).1 h).trans (((dats m 0 c).arrAt_in w hin _).trans (A_eq m c w))

/-- The frame, over any floats. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun _ h => ⟨fun c =>
    ⟨((h.1 c).2 main_arg0 (Pipeline.mem_restRefs_of main_arg0 (by decide) (by decide))).trans (V_main_arg0 m c),
      (input_kept m c 8 rfl rfl ((h.1 c).1 8)).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      (input_kept m c 10 rfl rfl ((h.1 c).1 10)).trans (V_main_arg7 m c),
      (input_kept m c 11 rfl rfl ((h.1 c).1 11)).trans (V_main_arg8 m c),
      (input_kept m c 12 rfl rfl ((h.1 c).1 12)).trans (V_main_arg9 m c),
      (input_kept m c 13 rfl rfl ((h.1 c).1 13)).trans (V_main_arg10 m c),
      (input_kept m c 14 rfl rfl ((h.1 c).1 14)).trans (V_main_arg11 m c)⟩, h.2⟩)
    (run_main m ρ)

theorem frame_ideal : Cert.quiescent_DeltaIdeal := fun m ρ _ => frame_any m ρ

set_option maxHeartbeats 20000000 in
/-- The program has the same text as its idealization, so the same run. -/
theorem frame_kernel : Cert.quiescent_Delta := fun m ρ _ => by
  rw [defs_eq]
  exact frame_any (F := Bits) m ρ

end Cert.DeltaProof

end
-- ==== Proof.PrologueBody.lean ====
/-
  The prologue's body on any whole buffers, over any floats: its inputs come back as they were, its outputs and its scratch
  hold something. Three kinds of grid point: the first, which also fills the scratch; the others with a block of rows; the last,
  which only casts a block of the weight.
-/
module

public import proofs.«01_k».proof.Proof.Gen.PrologueIdeal.Frame
public import proofs.«01_k».proof.Proof.Gen.PrologueIdeal.Skeleton
public import proofs.«01_k».proof.Proof.Gen.PrologueIdeal.Loops
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.PrologueProof

open Cert.PrologueIdeal Cert.PrologueIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The point is the first: the scratch is filled. -/
abbrev First (i : grid0.Coords) : Prop :=
  (Scalar.cmpi .ne (Scalar.extui (Scalar.cmpi .eq (BitVec.ofNat 32 (i 0).val) 0#32)) 0#32) = 1#1

/-- The point has a block of rows to normalise. -/
abbrev HasRows (i : grid0.Coords) : Prop := k0_cond2 i = 1#1

/-- The grid has no first point without rows. -/
theorem point_kinds : ∀ i : grid0.Coords, (First i ∧ HasRows i) ∨ (¬First i ∧ HasRows i) ∨ (¬First i ∧ ¬HasRows i) := by
  decide +kernel

set_option maxHeartbeats 3000000 in
/-- The body's triple at any point. -/
theorem run (c : Dev nD) (i : grid0.Coords)
    (arg1 : Memref sig .tc .vmem S544x2048 .f32) (harg1 : arg1.IsWhole)
    (arg2 : Memref sig .tc .vmem S512x2048 .f32) (harg2 : arg2.IsWhole)
    (arg3 : Memref sig .tc .vmem S1x2048 .f32) (harg3 : arg3.IsWhole)
    (arg4 : Memref sig .tc .vmem S32x2048 .f32) (harg4 : arg4.IsWhole)
    (arg5 : Memref sig .tc .vmem S1x128 .f32) (harg5 : arg5.IsWhole)
    (arg6 : Memref sig .tc .vmem S1x128 .f32) (harg6 : arg6.IsWhole)
    (arg7 : Memref sig .tc .vmem S544x2048 .bf16) (harg7 : arg7.IsWhole)
    (arg8 : Memref sig .tc .vmem S512x2048 .bf16) (harg8 : arg8.IsWhole)
    (arg9 : Memref sig .tc .vmem S512x128 .f32) (harg9 : arg9.IsWhole)
    (arg10 : Memref sig .tc .vmem S128x512 .f32) (harg10 : arg10.IsWhole)
    (arg11 : Memref sig .tc .vmem S128x2048 .bf16) (harg11 : arg11.IsWhole)
    (x0 : Vec F S544x2048 .f32) (x1 : Vec F S512x2048 .f32) (x2 : Vec F S1x2048 .f32) (x3 : Vec F S32x2048 .f32)
    (x4 : Vec F S1x128 .f32) (x5 : Vec F S1x128 .f32) (E : Set ℕ) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (∃ d, owns (c : Thread nD τ) arg9 fullShare d) ∗ (∃ d, owns (c : Thread nD τ) arg10 fullShare d)
        ∗ (∃ d, owns (c : Thread nD τ) arg11 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ (∃ d, owns (c : Thread nD τ) arg7 fullShare d) ∗ (∃ d, owns (c : Thread nD τ) arg8 fullShare d)
            ∗ (∃ d, owns (c : Thread nD τ) arg9 fullShare d) ∗ (∃ d, owns (c : Thread nD τ) arg10 fullShare d)
            ∗ (∃ d, owns (c : Thread nD τ) arg11 fullShare d)) -∗ K ⟨⟩))
      ⊢ wp frame (wpE (defs₀ (F := F)) Variants.none c none) E
          (cc0_prologue i arg1 harg1 arg2 harg2 arg3 harg3 arg4 harg4 arg5 harg5 arg6 harg6 arg7 harg7 arg8 harg8
            arg9 harg9 arg10 harg10 arg11 harg11) K := by
  simp only [cc0_prologue_eq_skeleton]; unfold cc0_prologue_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%ds0, %fs0, -, HS0⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  rcases point_kinds i with ⟨hc0, hc1⟩ | ⟨hc0, hc1⟩ | ⟨hc0, hc1⟩ <;>
  · (try simp only [k0_part1_eq_skeleton, k0_part2_eq_skeleton, k0_part3_eq_skeleton, k0_part4_eq_skeleton])
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    iexists _, _; isplitr; swap; · iexact HS0
    ipureintro; rfl

end Cert.PrologueProof

end
-- ==== Proof.PrologueFrame.lean ====
/-
  The prologue's frame: every run of it ends, with its arguments as they were and every counter at zero. Written over any
  floats, so that it serves the program and its idealization alike; what the outputs hold is not named.
-/
module

public import proofs.«01_k».proof.Defs
public import proofs.«01_k».proof.Proof.PrologueBody
public import proofs.«01_k».proof.Proof.Gen.Prologue
public import proofs.«01_k».proof.Proof.Gen.PrologueIdeal
public import proofs.«01_k».proof.Proof.Gen.PrologueRefIdeal.Run
public import Idealize.ShloMosaic.Lib.Claim

@[expose] public section

set_option maxRecDepth 16384

noncomputable section

namespace Cert.PrologueProof

open Cert.PrologueIdeal Cert.PrologueIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The four outputs, of whose contents nothing is said. -/
def unsaid : Fin 10 → Bool := fun w => w.val == 6 || w.val == 7 || w.val == 8 || w.val == 9

/-- What the pipeline's buffers hold after the body: an input its block, an output anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨w + 6, h⟩ => Pipeline.Dat.unnamed (cfg := cfg0) ⟨w + 6, h⟩ t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]

/-- The buffers at point `t`. -/
abbrev buf0 (t : Fin cfg0.N) : Memref sig .tc .vmem S544x2048 .f32 := win0_0.stage (cfg0.slots t 0)
abbrev buf1 (t : Fin cfg0.N) : Memref sig .tc .vmem S512x2048 .f32 := win0_1.stage (cfg0.slots t 1)
abbrev buf2 (t : Fin cfg0.N) : Memref sig .tc .vmem S1x2048 .f32 := win0_2.stage (cfg0.slots t 2)
abbrev buf3 (t : Fin cfg0.N) : Memref sig .tc .vmem S32x2048 .f32 := win0_3.stage (cfg0.slots t 3)
abbrev buf4 (t : Fin cfg0.N) : Memref sig .tc .vmem S1x128 .f32 := win0_4.stage (cfg0.slots t 4)
abbrev buf5 (t : Fin cfg0.N) : Memref sig .tc .vmem S1x128 .f32 := win0_5.stage (cfg0.slots t 5)
abbrev buf6 (t : Fin cfg0.N) : Memref sig .tc .vmem S544x2048 .bf16 := win0_6.stage (cfg0.slots t 6)
abbrev buf7 (t : Fin cfg0.N) : Memref sig .tc .vmem S512x2048 .bf16 := win0_7.stage (cfg0.slots t 7)
abbrev buf8 (t : Fin cfg0.N) : Memref sig .tc .vmem S512x128 .f32 := win0_8.stage (cfg0.slots t 8)
abbrev buf9 (t : Fin cfg0.N) : Memref sig .tc .vmem S128x512 .f32 := win0_9.stage (cfg0.slots t 9)

/-- What the body holds besides the windows: its scratch and the generator's register. -/
theorem held_eq (c : Dev nD) :
    (Pipeline.ΦA spec0 c : sProp 𝕄)
      = iprop(iprop((∃ d, owns (c : Thread nD τ) (Memref.whole cc0_scratch0) fullShare d)) ∗ (∃ r, prngReg c r)) := by
  unfold Pipeline.ΦA; rw [scopedRest0_eq]; simp only [owns_whole]; try rfl

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (buf0 t) fullShare ((dats m 0 c).before 0 t d))
    ∗ (∃ d, owns (c : Thread nD τ) (buf1 t) fullShare ((dats m 0 c).before 1 t d))
    ∗ (∃ d, owns (c : Thread nD τ) (buf2 t) fullShare ((dats m 0 c).before 2 t d))
    ∗ (∃ d, owns (c : Thread nD τ) (buf3 t) fullShare ((dats m 0 c).before 3 t d))
    ∗ (∃ d, owns (c : Thread nD τ) (buf4 t) fullShare ((dats m 0 c).before 4 t d))
    ∗ (∃ d, owns (c : Thread nD τ) (buf5 t) fullShare ((dats m 0 c).before 5 t d))
    ∗ (∃ d, owns (c : Thread nD τ) (buf6 t) fullShare d)
    ∗ (∃ d, owns (c : Thread nD τ) (buf7 t) fullShare d)
    ∗ (∃ d, owns (c : Thread nD τ) (buf8 t) fullShare d)
    ∗ (∃ d, owns (c : Thread nD τ) (buf9 t) fullShare d))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (∃ d, owns (c : Thread nD τ) (buf6 t) fullShare d)
    ∗ (∃ d, owns (c : Thread nD τ) (buf7 t) fullShare d)
    ∗ (∃ d, owns (c : Thread nD τ) (buf8 t) fullShare d)
    ∗ (∃ d, owns (c : Thread nD τ) (buf9 t) fullShare d))

/-- An input's buffer ends holding its block. -/
theorem leaves_0 (c : Dev nD) (t : Fin cfg0.N) : (dats m 0 c).leavesExact 0 t = owns (c : Thread nD τ) (buf0 t) fullShare (iblk m c 0 t) := by
  unfold Dat.leavesExact; rw [show cfg0.idle 0 (cfg0.grid.coords t) = false from rfl, after_0]
theorem leaves_1 (c : Dev nD) (t : Fin cfg0.N) : (dats m 0 c).leavesExact 1 t = owns (c : Thread nD τ) (buf1 t) fullShare (iblk m c 1 t) := by
  unfold Dat.leavesExact; rw [show cfg0.idle 1 (cfg0.grid.coords t) = false from rfl, after_1]
theorem leaves_2 (c : Dev nD) (t : Fin cfg0.N) : (dats m 0 c).leavesExact 2 t = owns (c : Thread nD τ) (buf2 t) fullShare (iblk m c 2 t) := by
  unfold Dat.leavesExact; rw [show cfg0.idle 2 (cfg0.grid.coords t) = false from rfl, after_2]
theorem leaves_3 (c : Dev nD) (t : Fin cfg0.N) : (dats m 0 c).leavesExact 3 t = owns (c : Thread nD τ) (buf3 t) fullShare (iblk m c 3 t) := by
  unfold Dat.leavesExact; rw [show cfg0.idle 3 (cfg0.grid.coords t) = false from rfl, after_3]
theorem leaves_4 (c : Dev nD) (t : Fin cfg0.N) : (dats m 0 c).leavesExact 4 t = owns (c : Thread nD τ) (buf4 t) fullShare (iblk m c 4 t) := by
  unfold Dat.leavesExact; rw [show cfg0.idle 4 (cfg0.grid.coords t) = false from rfl, after_4]
theorem leaves_5 (c : Dev nD) (t : Fin cfg0.N) : (dats m 0 c).leavesExact 5 t = owns (c : Thread nD τ) (buf5 t) fullShare (iblk m c 5 t) := by
  unfold Dat.leavesExact; rw [show cfg0.idle 5 (cfg0.grid.coords t) = false from rfl, after_5]

set_option maxHeartbeats 2400000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0_of m (dats m 0 c) (A_eq m c 0) (after_0 m c), before0_1_of m (dats m 0 c) (A_eq m c 1) (after_1 m c),
    before0_2_of m (dats m 0 c) (A_eq m c 2) (after_2 m c), before0_3_of m (dats m 0 c) (A_eq m c 3) (after_3 m c),
    before0_4_of m (dats m 0 c) (A_eq m c 4) (after_4 m c), before0_5_of m (dats m 0 c) (A_eq m c 5) (after_5 m c)]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, held_eq]
  rw [leaves_0, leaves_1, leaves_2, leaves_3, leaves_4, leaves_5]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (run c (grid0.coords t) _ _ _ _ _ _ _ _ _ _ _ _ _ _ _ _ _ _ _ _ _ _ (iblk m c 0 t) (iblk m c 1 t) (iblk m c 2 t) (iblk m c 3 t) (iblk m c 4 t) (iblk m c 5 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [HS0]; · iexact HS0
  iintro ⟨H0, H1, H2, H3, H4, H5, H6, H7, H8, H9, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ unsaid := fun t => by
  rw [bigSep_W0, bigSep_W0, row]
  exact triple_restated (sound_body m c t) rfl .rfl fun _ => .rfl

set_option backward.isDefEq.respectTransparency.types false in
/-- The whole run: buffers outside the windows as the region found them, and every counter at zero. -/
theorem run_main : θ_run defs (onTc (τ := τ) (main (F := F))) (s₀ m ρ)
    (fun r => (Pipeline.RDat.FramePost (cfgs 0) (fun c => (dats m 0 c).toRForget unsaid) (V m)) r ∧ r.2.sem = fun _ => 0) :=
  Pipeline.θ_run_frame_forget_shared (Q' := _) cfgs (dats m) (0 : Fin 1) launch₀0 defs₀ Variants.none unsaid m ρ main
    (hbody := fun c => (obligation m c).loose) (hq := fun _ _ _ => rfl)
    (howed := fun _ _ => rfl) (V := V m) (hmain := hmain m Variants.none) (hA := A_eq m) (hΦ := fun _ _ => rfl)

/-- The frame, over any floats. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c =>
    ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c)⟩, h.2⟩)
    (run_main m ρ)

theorem frame_ideal : Cert.quiescent_PrologueIdeal := fun m ρ _ => frame_any m ρ

/-- The program's body table is its idealization's. -/
theorem bodies_eq : Cert.Prologue.defs₀ (F := F) = Cert.PrologueIdeal.defs₀ (F := F) := by
  unfold Cert.Prologue.defs₀ Cert.PrologueIdeal.defs₀
  refine congrArg Defs.onTc (funext fun p => funext fun x => ?_)
  match p, x with
  | 0, (t, s) => rfl

theorem defs_eq : Cert.Prologue.defs (F := F) = Cert.PrologueIdeal.defs (F := F) := by
  unfold Cert.Prologue.defs Cert.PrologueIdeal.defs
  exact congrArg (Pipeline.defs (Cert.PrologueIdeal.pcfgs (F := F))) bodies_eq

/-- The program has the same text as its idealization, so the same run. -/
theorem frame_kernel : Cert.quiescent_Prologue := fun m ρ _ => by
  rw [defs_eq]
  exact frame_any (F := Bits) m ρ

/-- The reference is host operations alone. -/
theorem frame_ref : Cert.quiescent_PrologueRefIdeal := fun m ρ _ =>
  (θ_run Cert.PrologueRefIdeal.defs _ _).mono (fun r h => ⟨fun c => (h c).2.2.2.2, sem_eq_zero_of_no_sems (by decide) r.2⟩)
    (Cert.PrologueRefIdeal.Value.run (F := Ideal) m ρ)

end Cert.PrologueProof

end
-- ==== Proof.lean ====
/-
  The certificate: for each of the layer's calls, the frames and that idealizing changes nothing; for the Fourier transform,
  the MLP, the merge and the input projection also that the kernel and the reference end with equal results at the ideal
  values.
-/
module

public import proofs.«01_k».proof.Defs
public import proofs.«01_k».proof.Proof.DftClaim
public import proofs.«01_k».proof.Proof.MlpClaim
public import proofs.«01_k».proof.Proof.MergeClaim
public import proofs.«01_k».proof.Proof.InProjClaim
public import proofs.«01_k».proof.Proof.DeltaClaim
public import proofs.«01_k».proof.Proof.DeltaFrame
public import proofs.«01_k».proof.Proof.PrologueFrame
public import proofs.«01_k».proof.Proof.Gen.Dft
public import proofs.«01_k».proof.Proof.Gen.Dft.Skeleton
public import proofs.«01_k».proof.Proof.Gen.Dft.Launch
public import proofs.«01_k».proof.Proof.Gen.Dft.Points
public import proofs.«01_k».proof.Proof.Gen.Dft.Frame
public import proofs.«01_k».proof.Proof.Gen.DftIdeal
public import proofs.«01_k».proof.Proof.Gen.DftIdeal.Skeleton
public import proofs.«01_k».proof.Proof.Gen.DftIdeal.Launch
public import proofs.«01_k».proof.Proof.Gen.DftIdeal.Points
public import proofs.«01_k».proof.Proof.Gen.DftIdeal.Frame
public import proofs.«01_k».proof.Proof.Gen.DftRefIdeal
public import proofs.«01_k».proof.Proof.Gen.Mlp
public import proofs.«01_k».proof.Proof.Gen.Mlp.Skeleton
public import proofs.«01_k».proof.Proof.Gen.Mlp.Launch
public import proofs.«01_k».proof.Proof.Gen.Mlp.Points
public import proofs.«01_k».proof.Proof.Gen.Mlp.Frame
public import proofs.«01_k».proof.Proof.Gen.MlpIdeal
public import proofs.«01_k».proof.Proof.Gen.MlpIdeal.Skeleton
public import proofs.«01_k».proof.Proof.Gen.MlpIdeal.Launch
public import proofs.«01_k».proof.Proof.Gen.MlpIdeal.Points
public import proofs.«01_k».proof.Proof.Gen.MlpIdeal.Frame
public import proofs.«01_k».proof.Proof.Gen.MlpRefIdeal
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjRefIdeal
public import proofs.«01_k».proof.Proof.Gen.Delta
public import proofs.«01_k».proof.Proof.Gen.DeltaIdeal
public import proofs.«01_k».proof.Proof.Gen.DeltaRefIdeal
public import proofs.«01_k».proof.Proof.Gen.Prologue
public import proofs.«01_k».proof.Proof.Gen.PrologueIdeal
public import proofs.«01_k».proof.Proof.Gen.PrologueRefIdeal
public import proofs.«01_k».proof.Proof.Gen.Pre_finite
public import proofs.«01_k».proof.Proof.Gen.DftIdeal.Value
public import proofs.«01_k».proof.Proof.Gen.MlpIdeal.Value
public import proofs.«01_k».proof.Proof.Gen.MergeIdeal.Value
public import proofs.«01_k».proof.Proof.Gen.DftRefIdeal.Read
public import proofs.«01_k».proof.Proof.Gen.MlpRefIdeal.Read
public import proofs.«01_k».proof.Proof.Gen.MergeRefIdeal.Read
public import proofs.«01_k».proof.Proof.Gen.InProjRefIdeal.Read
public import Idealize.ShloMosaic.Adequacy
public import Idealize.ShloMosaic.Init

@[expose] public section

noncomputable section

namespace Cert.Proof

open Idealize.ShloMosaic Idealize.SL.Sem Cert.Dft

theorem claim : Cert.Claim := ⟨Cert.Dft.Gen.facts, Cert.DftIdeal.Gen.facts, Cert.DftRefIdeal.Gen.facts, Cert.Mlp.Gen.facts, Cert.MlpIdeal.Gen.facts, Cert.MlpRefIdeal.Gen.facts, Cert.Merge.Gen.facts, Cert.MergeIdeal.Gen.facts, Cert.MergeRefIdeal.Gen.facts, Cert.InProj.Gen.facts, Cert.InProjIdeal.Gen.facts, Cert.InProjRefIdeal.Gen.facts, Cert.Delta.Gen.facts, Cert.DeltaIdeal.Gen.facts, Cert.DeltaRefIdeal.Gen.facts, Cert.Prologue.Gen.facts, Cert.PrologueIdeal.Gen.facts, Cert.PrologueRefIdeal.Gen.facts, Cert.Pre_finite.Gen.facts,
  fun m ρ _ => Cert.Dft.Gen.frame m ρ,
  fun m ρ _ => Cert.DftIdeal.Gen.frame m ρ,
  fun m ρ _ => Cert.DftIdeal.Gen.frame m ρ,
  Cert.DftProof.frame_ref,
  fun m ρ _ => Cert.DftProof.frame_ref m ρ trivial,
  fun m ρ _ => Cert.Mlp.Gen.frame m ρ,
  fun m ρ _ => Cert.MlpIdeal.Gen.frame m ρ,
  Cert.MlpProof.frame_ref,
  fun m ρ _ => Cert.Merge.Gen.frame m ρ,
  fun m ρ _ => Cert.MergeIdeal.Gen.frame m ρ,
  Cert.MergeProof.frame_ref,
  fun m ρ _ => Cert.InProj.Gen.frame m ρ (Cert.InProjProof.ok_kernel m),
  fun m ρ _ => Cert.InProjIdeal.Gen.frame m ρ (Cert.InProjProof.ok m),
  Cert.InProjProof.frame_ref,
  Cert.DeltaProof.frame_kernel,
  Cert.DeltaProof.frame_ideal,
  Cert.DeltaProof.frame_ref,
  Cert.PrologueProof.frame_kernel,
  Cert.PrologueProof.frame_ideal,
  Cert.PrologueProof.frame_ref,
  trivial, Cert.DftProof.algebraic,
  trivial, Cert.MlpProof.algebraic,
  trivial, Cert.MergeProof.algebraic,
  trivial, Cert.InProjProof.algebraic,
  trivial,
  trivial⟩

end Cert.Proof

end
